-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.bf16_pair.BufferStatement Cert.KernelIdeal.S2304x2x128 Cert.KernelIdeal.S2304x1x128
  ∧ IdealRules.bf16_pair.Statement Cert.KernelIdeal.S64x512 Cert.KernelIdeal.S32x512
  ∧ IdealRules.bf16_pair.Statement Cert.KernelIdeal.S32x2x128 Cert.KernelIdeal.S32x1x128
  ∧ IdealRules.bf16_pair.Statement Cert.KernelIdeal.S72x2x128 Cert.KernelIdeal.S72x1x128
  ∧ IdealRules.bf16_pair.Statement Cert.KernelIdeal.S144x128 Cert.KernelIdeal.S72x128
  ∧ IdealRules.bf16_pair.Statement Cert.KernelIdeal.S144x512 Cert.KernelIdeal.S72x512

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v0_0)) (v4 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v0_0) = v3 c
          ∧ r.2.mem ((c.tc : Thread Cert.KernelIdeal.nD Cert.KernelIdeal.τ).loc Cert.KernelIdeal.main_v0_1) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_v1_3) = v3 c
          ∧ r.2.mem ((c.tc : Thread Cert.ReferenceIdeal.nD Cert.ReferenceIdeal.τ).loc Cert.ReferenceIdeal.main_v1_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x8192x2304 : Shape := ⟨3, ![3, 8192, 2304]⟩
abbrev S1408x2304 : Shape := ⟨2, ![1408, 2304]⟩
abbrev S44x72 : Shape := ⟨2, ![44, 72]⟩
abbrev S44x32x2304 : Shape := ⟨3, ![44, 32, 2304]⟩
abbrev S44x2304 : Shape := ⟨2, ![44, 2304]⟩
abbrev S4x2304 : Shape := ⟨2, ![4, 2304]⟩
abbrev S48x2304 : Shape := ⟨2, ![48, 2304]⟩
abbrev S2304x48 : Shape := ⟨2, ![2304, 48]⟩
abbrev S72x32x48 : Shape := ⟨3, ![72, 32, 48]⟩
abbrev S72x48 : Shape := ⟨2, ![72, 48]⟩
abbrev S48x72 : Shape := ⟨2, ![48, 72]⟩
abbrev S48x56 : Shape := ⟨2, ![48, 56]⟩
abbrev S48x128 : Shape := ⟨2, ![48, 128]⟩
abbrev S48x128x1 : Shape := ⟨3, ![48, 128, 1]⟩
abbrev S1x128 : Shape := ⟨2, ![1, 128]⟩
abbrev S32x128 : Shape := ⟨2, ![32, 128]⟩
abbrev S24576x2304 : Shape := ⟨2, ![24576, 2304]⟩
abbrev S24576x1408 : Shape := ⟨2, ![24576, 1408]⟩
abbrev S24576x72 : Shape := ⟨2, ![24576, 72]⟩
abbrev S512x2304 : Shape := ⟨2, ![512, 2304]⟩
abbrev S512x1408 : Shape := ⟨2, ![512, 1408]⟩
abbrev S512x72 : Shape := ⟨2, ![512, 72]⟩
abbrev S2304x128 : Shape := ⟨2, ![2304, 128]⟩
abbrev S512x128 : Shape := ⟨2, ![512, 128]⟩
abbrev S128x512 : Shape := ⟨2, ![128, 512]⟩
abbrev S4x2x16x512 : Shape := ⟨4, ![4, 2, 16, 512]⟩
abbrev S4x1x16x512 : Shape := ⟨4, ![4, 1, 16, 512]⟩
abbrev S4x16x512 : Shape := ⟨3, ![4, 16, 512]⟩
abbrev S64x512 : Shape := ⟨2, ![64, 512]⟩
abbrev S32x512 : Shape := ⟨2, ![32, 512]⟩
abbrev S72x128 : Shape := ⟨2, ![72, 128]⟩
abbrev S144x128 : Shape := ⟨2, ![144, 128]⟩
abbrev S72x512 : Shape := ⟨2, ![72, 512]⟩
abbrev S56x512 : Shape := ⟨2, ![56, 512]⟩
abbrev S512x128x1 : Shape := ⟨3, ![512, 128, 1]⟩
abbrev S384x2304 : Shape := ⟨2, ![384, 2304]⟩
abbrev S256x2304 : Shape := ⟨2, ![256, 2304]⟩
abbrev S384x256 : Shape := ⟨2, ![384, 256]⟩
abbrev S256x384 : Shape := ⟨2, ![256, 384]⟩
abbrev S256x256 : Shape := ⟨2, ![256, 256]⟩

abbrev nBuf : Space → Nat
  | .hbm => 9
  | .vmem => 15
  | .smem => 0
  | _ => 0

abbrev bufTy : (tb : Table) → Fin (tcTables nBuf tb) → BufTy
  | .hbm, ⟨0, _⟩ => ⟨S3x8192x2304, .bf16⟩
  | .hbm, ⟨1, _⟩ => ⟨S1408x2304, .bf16⟩
  | .hbm, ⟨2, _⟩ => ⟨S1408x2304, .fp8e4m3⟩
  | .hbm, ⟨3, _⟩ => ⟨S44x72, .f32⟩
  | .hbm, ⟨4, _⟩ => ⟨S1408x2304, .bf16⟩
  | .hbm, ⟨5, _⟩ => ⟨S24576x2304, .bf16⟩
  | .hbm, ⟨6, _⟩ => ⟨S24576x1408, .bf16⟩
  | .hbm, ⟨7, _⟩ => ⟨S24576x2304, .fp8e4m3⟩
  | .hbm, ⟨8, _⟩ => ⟨S24576x72, .f32⟩
  | .local _ .vmem, ⟨0, _⟩ => ⟨S1408x2304, .bf16⟩
  | .local _ .vmem, ⟨1, _⟩ => ⟨S1408x2304, .fp8e4m3⟩
  | .local _ .vmem, ⟨2, _⟩ => ⟨S44x72, .f32⟩
  | .local _ .vmem, ⟨3, _⟩ => ⟨S1408x2304, .bf16⟩
  | .local _ .vmem, ⟨4, _⟩ => ⟨S512x2304, .bf16⟩
  | .local _ .vmem, ⟨5, _⟩ => ⟨S512x2304, .bf16⟩
  | .local _ .vmem, ⟨6, _⟩ => ⟨S1408x2304, .bf16⟩
  | .local _ .vmem, ⟨7, _⟩ => ⟨S512x1408, .bf16⟩
  | .local _ .vmem, ⟨8, _⟩ => ⟨S512x1408, .bf16⟩
  | .local _ .vmem, ⟨9, _⟩ => ⟨S512x2304, .fp8e4m3⟩
  | .local _ .vmem, ⟨10, _⟩ => ⟨S512x2304, .fp8e4m3⟩
  | .local _ .vmem, ⟨11, _⟩ => ⟨S512x72, .f32⟩
  | .local _ .vmem, ⟨12, _⟩ => ⟨S512x72, .f32⟩
  | .local _ .vmem, ⟨13, _⟩ => ⟨S2304x128, .i32⟩
  | .local _ .vmem, ⟨14, _⟩ => ⟨S512x2304, .bf16⟩
  | _, _ => ⟨S3x8192x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc1_scratch0 : Ref sig .tc := ⟨.vmem, 13, rfl⟩
abbrev cc1_scratch1 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem4_1 : DmaSem sig := 12

abbrev nD : Nat := 1
abbrev τ : Topo := Topo.v7x

variable {F : FTy → Type} [BitOps F]

abbrev grid0 : Pipeline.Grid := .none

abbrev stage0_0 : Fin 1 → Memref sig .tc .vmem S1408x2304 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1408x2304 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S44x72 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1408x2304 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨1, ![48], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2304 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1408x2304 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1408 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x2304 .fp8e4m3 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x72 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== KernelIdeal.lean ====
abbrev S2304x2x128 : Shape := ⟨3, ![2304, 2, 128]⟩
abbrev S2304x1x128 : Shape := ⟨3, ![2304, 1, 128]⟩
abbrev S32x2x128 : Shape := ⟨3, ![32, 2, 128]⟩
abbrev S32x1x128 : Shape := ⟨3, ![32, 1, 128]⟩
abbrev S72x2x128 : Shape := ⟨3, ![72, 2, 128]⟩
abbrev S72x1x128 : Shape := ⟨3, ![72, 1, 128]⟩
abbrev S144x512 : Shape := ⟨2, ![144, 512]⟩
  | .local _ .vmem, ⟨13, _⟩ => ⟨S2304x2x128, .bf16⟩
variable {F : FTy → Type} [FloatOps F]
-- ==== ReferenceIdeal.lean ====
abbrev S3x8192x2304 : Shape := ⟨3, ![3, 8192, 2304]⟩
abbrev S1408x2304 : Shape := ⟨2, ![1408, 2304]⟩
abbrev S24576x2304 : Shape := ⟨2, ![24576, 2304]⟩
abbrev S24576x1408 : Shape := ⟨2, ![24576, 1408]⟩
abbrev S24576x72 : Shape := ⟨2, ![24576, 72]⟩
abbrev S44x72 : Shape := ⟨2, ![44, 72]⟩
abbrev S24576x72x32 : Shape := ⟨3, ![24576, 72, 32]⟩
abbrev S253x1x1 : Shape := ⟨3, ![253, 1, 1]⟩
abbrev S253x24576x72 : Shape := ⟨3, ![253, 24576, 72]⟩
abbrev S1x24576x72 : Shape := ⟨3, ![1, 24576, 72]⟩
abbrev S24576x72x1 : Shape := ⟨3, ![24576, 72, 1]⟩
abbrev S44x32x72x32 : Shape := ⟨4, ![44, 32, 72, 32]⟩
abbrev S253x44x72 : Shape := ⟨3, ![253, 44, 72]⟩
abbrev S1x44x72 : Shape := ⟨3, ![1, 44, 72]⟩
abbrev S44x1x72x1 : Shape := ⟨4, ![44, 1, 72, 1]⟩

abbrev nBuf : Space → Nat
  | .hbm => 8
  | .vmem => 7
  | .smem => 0
  | _ => 0

abbrev bufTy : (tb : Table) → Fin (tcTables nBuf tb) → BufTy
  | .hbm, ⟨0, _⟩ => ⟨S3x8192x2304, .bf16⟩
  | .hbm, ⟨1, _⟩ => ⟨S1408x2304, .bf16⟩
  | .hbm, ⟨2, _⟩ => ⟨S24576x2304, .bf16⟩
  | .hbm, ⟨3, _⟩ => ⟨S24576x1408, .bf16⟩
  | .hbm, ⟨4, _⟩ => ⟨S24576x2304, .fp8e4m3⟩
  | .hbm, ⟨5, _⟩ => ⟨S24576x72, .f32⟩
  | .hbm, ⟨6, _⟩ => ⟨S1408x2304, .fp8e4m3⟩
  | .hbm, ⟨7, _⟩ => ⟨S44x72, .f32⟩
  | .local _ .vmem, ⟨0, _⟩ => ⟨S24576x2304, .bf16⟩
  | .local _ .vmem, ⟨1, _⟩ => ⟨S1408x2304, .bf16⟩
  | .local _ .vmem, ⟨2, _⟩ => ⟨S24576x1408, .bf16⟩
  | .local _ .vmem, ⟨3, _⟩ => ⟨S24576x2304, .fp8e4m3⟩
  | .local _ .vmem, ⟨4, _⟩ => ⟨S24576x72, .f32⟩
  | .local _ .vmem, ⟨5, _⟩ => ⟨S1408x2304, .fp8e4m3⟩
  | .local _ .vmem, ⟨6, _⟩ => ⟨S44x72, .f32⟩
  | _, _ => ⟨S3x8192x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v1_4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S24576x2304 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1408x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24576x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24576x2304 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24576x72 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1408x2304 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S44x72 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Kernel.Region0.lean ====
/- The region of the weight quantiser `cc0_wquant` in `proofs.«01_k».proof.Kernel`: what one run of its body stores, that
   the stores cover the outputs, and the body obligation of its pipeline. Written after the generated frame's Region modules. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_wquant` (pipeline 0), at the entry contents `V` -/

/-! ## The windows' blocks -/

/-- Window `w`'s block at point `t`, read off its array as the region finds it (`V`). -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of each output window, through which its contents are stated (`View.read_writes_of_cover`:
    the choice does not matter). -/
abbrev VO0_1 : View sig .tc .vmem S1408x2304 .fp8e4m3 := (Memref.whole cc0_stg1_0 : Memref sig .tc .vmem S1408x2304 .fp8e4m3).view
abbrev VO0_2 : View sig .tc .vmem S44x72 .f32 := (Memref.whole cc0_stg2_0 : Memref sig .tc .vmem S44x72 .f32).view
abbrev VO0_3 : View sig .tc .vmem S1408x2304 .bf16 := (Memref.whole cc0_stg3_0 : Memref sig .tc .vmem S1408x2304 .bf16).view

-- the run goes through every store of the body
set_option maxHeartbeats 40000000 in
/-- What the body's stores leave in each output's staging memref, as pieces (last first), with the proof that on
    whole staging memrefs, the input's at its contents and the outputs' at anything, the body runs to the
    continuation holding the input's as it was and each output's buffer with its pieces written. The pieces are the
    witness `sl_exec` finds. -/
noncomputable def kernelRun0 (c : Dev nD) (arg0 : Memref sig .tc .vmem S1408x2304 .bf16) (harg0 : arg0.IsWhole) (arg1 : Memref sig .tc .vmem S1408x2304 .fp8e4m3) (harg1 : arg1.IsWhole) (arg2 : Memref sig .tc .vmem S44x72 .f32) (harg2 : arg2.IsWhole) (arg3 : Memref sig .tc .vmem S1408x2304 .bf16) (harg3 : arg3.IsWhole)
    (x0 : Vec F S1408x2304 .bf16) :
    Σ' (L1 : List (View.Piece (Elt F) S1408x2304 .fp8e4m3)), Σ' (L2 : List (View.Piece (Elt F) S44x72 .f32)), { L3 : List (View.Piece (Elt F) S1408x2304 .bf16) //
      ∀ (E : Set ℕ) (K : PUnit → sProp 𝕄),
        iprop(owns (c : Thread nD τ) arg0 fullShare x0 ∗ (∃ d, owns (c : Thread nD τ) arg1 fullShare d) ∗ (∃ d, owns (c : Thread nD τ) arg2 fullShare d) ∗ (∃ d, owns (c : Thread nD τ) arg3 fullShare d)
            ∗ (iprop(owns (c : Thread nD τ) arg0 fullShare x0 ∗ (∃ f, arg1.view.loc (c : Thread nD τ) ↦[arg1.view.set]{fullShare} arg1.view.writes (Elt F) f L1) ∗ (∃ f, arg2.view.loc (c : Thread nD τ) ↦[arg2.view.set]{fullShare} arg2.view.writes (Elt F) f L2) ∗ (∃ f, arg3.view.loc (c : Thread nD τ) ↦[arg3.view.set]{fullShare} arg3.view.writes (Elt F) f L3)) -∗ K ⟨⟩))
          ⊢ wp frame (wpE (defs₀ (F := F)) Variants.none c none) E (cc0_wquant arg0 harg0 arg1 harg1 arg2 harg2 arg3 harg3) K } := by
  refine ⟨?_, ?_, ?_, fun E K => ?run⟩
  case run =>
    simp only [cc0_wquant_eq_skeleton]; unfold cc0_wquant_skel
    simp only [k0_part390_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part391_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part392_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part393_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part394_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part395_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton]
    unfold owns
    iintro ⟨⟨%f0, %hf0, H0⟩, ⟨%d1, %f1, -, H1⟩, ⟨%d2, %f2, -, H2⟩, ⟨%d3, %f3, -, H3⟩, Hk⟩
    obtain rfl := harg0.eq_unread hf0
    sl_exec
    sl_step
    iapply Hk
    isplitl [H0]
    · iexists _; isplitr; · ipureintro; exact harg0.read_unread _
      iexact H0
    isplitl [H1]; · iexists _; iexact H1
    isplitl [H2]; · iexists _; iexact H2
    iexists _; iexact H3

/-- The stores of output 1 tile its buffer (checked by the kernel's evaluation), so they cover it. -/
theorem cover0_1 (c : Dev nD) (arg0 : Memref sig .tc .vmem S1408x2304 .bf16) (harg0 : arg0.IsWhole) (arg1 : Memref sig .tc .vmem S1408x2304 .fp8e4m3) (harg1 : arg1.IsWhole) (arg2 : Memref sig .tc .vmem S44x72 .f32) (harg2 : arg2.IsWhole) (arg3 : Memref sig .tc .vmem S1408x2304 .bf16) (harg3 : arg3.IsWhole)
    (x0 : Vec F S1408x2304 .bf16) (y : S1408x2304.Idx) :
    ∃ pc ∈ (kernelRun0 c arg0 harg0 arg1 harg1 arg2 harg2 arg3 harg3 x0).1, y ∈ pc.1.set :=
  View.cover_of_tiledL (kernelRun0 c arg0 harg0 arg1 harg1 arg2 harg2 arg3 harg3 x0).1 S32x128.size (by sl_kernel_rfl) y

/-- What the run leaves in output 1's staging buffer: its pieces read back over junk. -/
def out0_1 (c : Dev nD) (arg0 : Memref sig .tc .vmem S1408x2304 .bf16) (harg0 : arg0.IsWhole) (arg1 : Memref sig .tc .vmem S1408x2304 .fp8e4m3) (harg1 : arg1.IsWhole) (arg2 : Memref sig .tc .vmem S44x72 .f32) (harg2 : arg2.IsWhole) (arg3 : Memref sig .tc .vmem S1408x2304 .bf16) (harg3 : arg3.IsWhole)
    (x0 : Vec F S1408x2304 .bf16) : Vec F S1408x2304 .fp8e4m3 :=
  VO0_1.read (Elt F) (VO0_1.writes (Elt F) VO0_1.junk (kernelRun0 c arg0 harg0 arg1 harg1 arg2 harg2 arg3 harg3 x0).1)

/-- The stores of output 2 tile its buffer (checked by the kernel's evaluation), so they cover it. -/
theorem cover0_2 (c : Dev nD) (arg0 : Memref sig .tc .vmem S1408x2304 .bf16) (harg0 : arg0.IsWhole) (arg1 : Memref sig .tc .vmem S1408x2304 .fp8e4m3) (harg1 : arg1.IsWhole) (arg2 : Memref sig .tc .vmem S44x72 .f32) (harg2 : arg2.IsWhole) (arg3 : Memref sig .tc .vmem S1408x2304 .bf16) (harg3 : arg3.IsWhole)
    (x0 : Vec F S1408x2304 .bf16) (y : S44x72.Idx) :
    ∃ pc ∈ (kernelRun0 c arg0 harg0 arg1 harg1 arg2 harg2 arg3 harg3 x0).2.1, y ∈ pc.1.set :=
  View.cover_of_tiledL (kernelRun0 c arg0 harg0 arg1 harg1 arg2 harg2 arg3 harg3 x0).2.1 S44x72.size (by sl_kernel_rfl) y

/-- What the run leaves in output 2's staging buffer: its pieces read back over junk. -/
def out0_2 (c : Dev nD) (arg0 : Memref sig .tc .vmem S1408x2304 .bf16) (harg0 : arg0.IsWhole) (arg1 : Memref sig .tc .vmem S1408x2304 .fp8e4m3) (harg1 : arg1.IsWhole) (arg2 : Memref sig .tc .vmem S44x72 .f32) (harg2 : arg2.IsWhole) (arg3 : Memref sig .tc .vmem S1408x2304 .bf16) (harg3 : arg3.IsWhole)
    (x0 : Vec F S1408x2304 .bf16) : Vec F S44x72 .f32 :=
  VO0_2.read (Elt F) (VO0_2.writes (Elt F) VO0_2.junk (kernelRun0 c arg0 harg0 arg1 harg1 arg2 harg2 arg3 harg3 x0).2.1)

/-- The stores of output 3 tile its buffer (checked by the kernel's evaluation), so they cover it. -/
theorem cover0_3 (c : Dev nD) (arg0 : Memref sig .tc .vmem S1408x2304 .bf16) (harg0 : arg0.IsWhole) (arg1 : Memref sig .tc .vmem S1408x2304 .fp8e4m3) (harg1 : arg1.IsWhole) (arg2 : Memref sig .tc .vmem S44x72 .f32) (harg2 : arg2.IsWhole) (arg3 : Memref sig .tc .vmem S1408x2304 .bf16) (harg3 : arg3.IsWhole)
    (x0 : Vec F S1408x2304 .bf16) (y : S1408x2304.Idx) :
    ∃ pc ∈ (kernelRun0 c arg0 harg0 arg1 harg1 arg2 harg2 arg3 harg3 x0).2.2.1, y ∈ pc.1.set :=
  View.cover_of_tiledL (kernelRun0 c arg0 harg0 arg1 harg1 arg2 harg2 arg3 harg3 x0).2.2.1 S32x128.size (by sl_kernel_rfl) y

/-- What the run leaves in output 3's staging buffer: its pieces read back over junk. -/
def out0_3 (c : Dev nD) (arg0 : Memref sig .tc .vmem S1408x2304 .bf16) (harg0 : arg0.IsWhole) (arg1 : Memref sig .tc .vmem S1408x2304 .fp8e4m3) (harg1 : arg1.IsWhole) (arg2 : Memref sig .tc .vmem S44x72 .f32) (harg2 : arg2.IsWhole) (arg3 : Memref sig .tc .vmem S1408x2304 .bf16) (harg3 : arg3.IsWhole)
    (x0 : Vec F S1408x2304 .bf16) : Vec F S1408x2304 .bf16 :=
  VO0_3.read (Elt F) (VO0_3.writes (Elt F) VO0_3.junk (kernelRun0 c arg0 harg0 arg1 harg1 arg2 harg2 arg3 harg3 x0).2.2.1)

/-- What the body leaves in output `w`'s buffer at point `t`: the run's contents at the point's memrefs and input. -/
def outs0_1 (c : Dev nD) (t : Fin cfg0.N) : Vec F S1408x2304 .fp8e4m3 :=
  out0_1 c (st0_0 t) (hstage0_0 0) (st0_1 t) (hstage0_1 0) (st0_2 t) (hstage0_2 0) (st0_3 t) (hstage0_3 0) (iblk0 V c 0 t)
def outs0_2 (c : Dev nD) (t : Fin cfg0.N) : Vec F S44x72 .f32 :=
  out0_2 c (st0_0 t) (hstage0_0 0) (st0_1 t) (hstage0_1 0) (st0_2 t) (hstage0_2 0) (st0_3 t) (hstage0_3 0) (iblk0 V c 0 t)
def outs0_3 (c : Dev nD) (t : Fin cfg0.N) : Vec F S1408x2304 .bf16 :=
  out0_3 c (st0_0 t) (hstage0_0 0) (st0_1 t) (hstage0_1 0) (st0_2 t) (hstage0_2 0) (st0_3 t) (hstage0_3 0) (iblk0 V c 0 t)

/-! ## The pipeline's proof data -/

/-- The proof data of pipeline 0 on core `c`: the arrays as the region finds them (`V`); after the body at
    point `t` each input's buffer at its block and each output's at `outs0_W`; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => outs0_1 V c t
    | ⟨2, _⟩ => outs0_2 V c t
    | ⟨3, _⟩ => outs0_3 V c t
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = outs0_1 V c t := by dsimp only [dat0]
theorem after0_2 (c : Dev nD) (t : Fin cfg0.N) : (dat0 V c).after 2 t = outs0_2 V c t := by dsimp only [dat0]
theorem after0_3 (c : Dev nD) (t : Fin cfg0.N) : (dat0 V c).after 3 t = outs0_3 V c t := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so the run applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2, after0_3]
  unfold outs0_1 outs0_2 outs0_3 out0_1 out0_2 out0_3
  iintro ⟨HΦ, Ho, ⟨%d0, H0⟩, ⟨%d1, H1⟩, ⟨%d2, H2⟩, ⟨%d3, H3⟩⟩
  iapply ((kernelRun0 c _ _ _ _ _ _ _ _ (iblk0 V c 0 t)).2.2.2 Set.univ _)
  isplitl [H0]; · iexact H0
  isplitl [H1]; · iexists _; iexact H1
  isplitl [H2]; · iexists _; iexact H2
  isplitl [H3]; · iexists _; iexact H3
  iintro ⟨H0, ⟨%e1, H1⟩, ⟨%e2, H2⟩, ⟨%e3, H3⟩⟩
  isplitl [HΦ]; · iexact HΦ
  isplitl [Ho]; · iexact Ho
  isplitl [H0]; · iexact H0
  isplitl [H1]
  · unfold owns; iexists _; isplitr
    swap; · iexact H1
    ipureintro; exact View.read_writes_of_cover _ _ _ _ _ (cover0_1 c _ _ _ _ _ _ _ _ _)
  isplitl [H2]
  · unfold owns; iexists _; isplitr
    swap; · iexact H2
    ipureintro; exact View.read_writes_of_cover _ _ _ _ _ (cover0_2 c _ _ _ _ _ _ _ _ _)
  unfold owns; iexists _; isplitr
  swap; · iexact H3
  ipureintro; exact View.read_writes_of_cover _ _ _ _ _ (cover0_3 c _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.Kernel.Own

end
-- ==== Proof.Kernel.Fold0.lean ====
/- The buffer contents of `proofs.«01_k».proof.Kernel` as its main function goes: the fold through its two regions. -/
module

public import proofs.«01_k».proof.Proof.Kernel.Region0
public import proofs.«01_k».proof.Proof.Gen.Kernel.Frame.Region1
public import proofs.«01_k».proof.Proof.Gen.Kernel.Frame.Hosts0

@[expose] public section

-- membership in a rectangle of production extents (`View.cover_of_tiled`): the elaborator's structural look
-- recurses once per coordinate of the long axes
set_option maxRecDepth 16384

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch (region 0's entry). -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- The same read at the TensorCore's references (what region 0's proof data take). -/
abbrev V0 : (c : Dev nD) → (b : Ref sig .tc) → Buf (Elt F) ((c : Thread nD τ).loc b) := fun c b => W0 m ρ c b
/-- At region 0's exit: its arrays at what the pipeline leaves (the inputs as entered, each output's write-backs
    folded: `Dat.arrAt … N`), every other buffer as entered (Lib/Pipeline/FrameSuffix.lean `withArrays`). -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- A reference that is none of region 0's OUTPUT arrays keeps its entry contents across it: an input window's
    array is never written back (`Dat.arrAt_in`, `A_eq0`); any other buffer is left as is. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m ρ c (Proc.devRef .tc a) = m ((c : Thread nD τ).loc a) :=
  fun a ha => (W1_of m ρ c a (argsIn0 a ha)).trans (W0_args m ρ c a ha)
/-- The same read at the TensorCore's references (region 0's exit contents). -/
abbrev V1 : (c : Dev nD) → (b : Ref sig .tc) → Buf (Elt F) ((c : Thread nD τ).loc b) := fun c b => W1 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After `hostOps1` (region 1's entry). -/
abbrev W2 : Dev nD → Valuation τ sig (Elt F) := fun c => StableHlo.after hostOps1 (W1 m ρ c)
/-- A reference `hostOps1` does not write keeps its contents across it. -/
theorem W2_of (c : Dev nD) (r : Ref sig .tc) (h : r ∉ hostOps1_W) : W2 m ρ c (Proc.devRef .tc r) = W1 m ρ c (Proc.devRef .tc r) :=
  StableHlo.after_of_writes_sub hostOps1 _ hostOps1_writes h
theorem W2_args (c : Dev nD) : ∀ a ∈ argRefs, W2 m ρ c (Proc.devRef .tc a) = m ((c : Thread nD τ).loc a) :=
  fun a ha => (W2_of m ρ c a (hostOps1_args a ha)).trans (W1_args m ρ c a ha)
/-- The same read at the TensorCore's references (what region 1's proof data take). -/
abbrev V2 : (c : Dev nD) → (b : Ref sig .tc) → Buf (Elt F) ((c : Thread nD τ).loc b) := fun c b => W2 m ρ c b
/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched: no host stretch writes one and no region may change one (a region reads it
    through an input window or bypasses it) -/

theorem W3_main_arg0 (c : Dev nD) : W3 m ρ c (Proc.devRef .tc main_arg0) = m ((c : Thread nD τ).loc main_arg0) :=
  W3_args m ρ c main_arg0 (by decide)
theorem W3_main_arg1 (c : Dev nD) : W3 m ρ c (Proc.devRef .tc main_arg1) = m ((c : Thread nD τ).loc main_arg1) :=
  W3_args m ρ c main_arg1 (by decide)
end Cert.Kernel.Own

end
-- ==== Proof.Kernel.State.lean ====
/- The proof data and the thread state of `proofs.«01_k».proof.Kernel` around its regions. -/
module

public import proofs.«01_k».proof.Proof.Kernel.Fold0

@[expose] public section

-- membership in a rectangle of production extents (`View.cover_of_tiled`): the elaborator's structural look
-- recurses once per coordinate of the long axes
set_option maxRecDepth 16384

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W3`, the generator register at some state. -/
abbrev Tₙ (c : Dev nD) : sProp 𝕄 := iprop(StableHlo.held (c : Thread nD τ) (Pipeline.ucRefs τ sig) (W3 m ρ c) ∗ ∃ r, prngReg c r)

end Cert.Kernel.Own

end
-- ==== Proof.Kernel.Record0.lean ====
/- The record of the weight quantiser's region of `proofs.«01_k».proof.Kernel`. -/
module

public import proofs.«01_k».proof.Proof.Kernel.State

@[expose] public section

-- membership in a rectangle of production extents (`View.cover_of_tiled`): the elaborator's structural look
-- recurses once per coordinate of the long axes
set_option maxRecDepth 16384

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W0`, left at `W1`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Own

end
-- ==== Proof.Kernel.Record1.lean ====
/- The record of the main region of `proofs.«01_k».proof.Kernel`. -/
module

public import proofs.«01_k».proof.Proof.Kernel.State

@[expose] public section

-- membership in a rectangle of production extents (`View.cover_of_tiled`): the elaborator's structural look
-- recurses once per coordinate of the long axes
set_option maxRecDepth 16384

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.Kernel.Own

end
-- ==== Proof.Kernel.Frame.lean ====
/- The frame certificate of `proofs.«01_k».proof.Kernel`, from the records of its two regions. -/
module

public import proofs.«01_k».proof.Proof.Kernel.Record0
public import proofs.«01_k».proof.Proof.Kernel.Record1

@[expose] public section

-- membership in a rectangle of production extents (`View.cover_of_tiled`): the elaborator's structural look
-- recurses once per coordinate of the long axes
set_option maxRecDepth 16384

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 3 segments in order: a host segment per stretch from its boundary's contents, a region per pallas_call. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run: at the compiled mesh, from any memory with zero counters, every weakly fair execution of @main on the
    TensorCores terminates, nothing faulting, and every final state has each unscoped buffer at the fold's last
    contents `W3` and every semaphore counter of the machine at zero. -/
theorem run : θ_run defs (onTc (τ := τ) (main (F := F))) ⟨m, fun _ => 0, ρ⟩ (fun r => (∀ c : Dev nD,
      ∀ b ∈ Pipeline.ucRefs τ sig, r.2.mem (((c : Thread nD τ)).1, b) = W3 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨h, funext fun g => hz g (.inr (no_unscoped g.2))⟩)

/-- The frame: every execution terminates, nothing faulting, the argument arrays end as launched and every semaphore
    counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨(h.1 c _ (mem_uc main_arg0 (by decide))).trans (W3_main_arg0 m ρ c),
     (h.1 c _ (mem_uc main_arg1 (by decide))).trans (W3_main_arg1 m ρ c)⟩, h.2⟩) (run m ρ)

end Cert.Kernel.Own

end
-- ==== Proof.KernelIdeal.Region0.lean ====
/- The region of the weight quantiser `cc0_wquant` in `proofs.«01_k».proof.KernelIdeal`: what one run of its body stores, that
   the stores cover the outputs, and the body obligation of its pipeline. Written after the generated frame's Region modules. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_wquant` (pipeline 0), at the entry contents `V` -/

/-! ## The windows' blocks -/

/-- Window `w`'s block at point `t`, read off its array as the region finds it (`V`). -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of each output window, through which its contents are stated (`View.read_writes_of_cover`:
    the choice does not matter). -/
abbrev VO0_1 : View sig .tc .vmem S1408x2304 .fp8e4m3 := (Memref.whole cc0_stg1_0 : Memref sig .tc .vmem S1408x2304 .fp8e4m3).view
abbrev VO0_2 : View sig .tc .vmem S44x72 .f32 := (Memref.whole cc0_stg2_0 : Memref sig .tc .vmem S44x72 .f32).view
abbrev VO0_3 : View sig .tc .vmem S1408x2304 .bf16 := (Memref.whole cc0_stg3_0 : Memref sig .tc .vmem S1408x2304 .bf16).view

-- the run goes through every store of the body
set_option maxHeartbeats 40000000 in
/-- What the body's stores leave in each output's staging memref, as pieces (last first), with the proof that on
    whole staging memrefs, the input's at its contents and the outputs' at anything, the body runs to the
    continuation holding the input's as it was and each output's buffer with its pieces written. The pieces are the
    witness `sl_exec` finds. -/
noncomputable def kernelRun0 (c : Dev nD) (arg0 : Memref sig .tc .vmem S1408x2304 .bf16) (harg0 : arg0.IsWhole) (arg1 : Memref sig .tc .vmem S1408x2304 .fp8e4m3) (harg1 : arg1.IsWhole) (arg2 : Memref sig .tc .vmem S44x72 .f32) (harg2 : arg2.IsWhole) (arg3 : Memref sig .tc .vmem S1408x2304 .bf16) (harg3 : arg3.IsWhole)
    (x0 : Vec F S1408x2304 .bf16) :
    Σ' (L1 : List (View.Piece (Elt F) S1408x2304 .fp8e4m3)), Σ' (L2 : List (View.Piece (Elt F) S44x72 .f32)), { L3 : List (View.Piece (Elt F) S1408x2304 .bf16) //
      ∀ (E : Set ℕ) (K : PUnit → sProp 𝕄),
        iprop(owns (c : Thread nD τ) arg0 fullShare x0 ∗ (∃ d, owns (c : Thread nD τ) arg1 fullShare d) ∗ (∃ d, owns (c : Thread nD τ) arg2 fullShare d) ∗ (∃ d, owns (c : Thread nD τ) arg3 fullShare d)
            ∗ (iprop(owns (c : Thread nD τ) arg0 fullShare x0 ∗ (∃ f, arg1.view.loc (c : Thread nD τ) ↦[arg1.view.set]{fullShare} arg1.view.writes (Elt F) f L1) ∗ (∃ f, arg2.view.loc (c : Thread nD τ) ↦[arg2.view.set]{fullShare} arg2.view.writes (Elt F) f L2) ∗ (∃ f, arg3.view.loc (c : Thread nD τ) ↦[arg3.view.set]{fullShare} arg3.view.writes (Elt F) f L3)) -∗ K ⟨⟩))
          ⊢ wp frame (wpE (defs₀ (F := F)) Variants.none c none) E (cc0_wquant arg0 harg0 arg1 harg1 arg2 harg2 arg3 harg3) K } := by
  refine ⟨?_, ?_, ?_, fun E K => ?run⟩
  case run =>
    simp only [cc0_wquant_eq_skeleton]; unfold cc0_wquant_skel
    simp only [k0_part390_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part391_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part392_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part393_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part394_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part395_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton]
    unfold owns
    iintro ⟨⟨%f0, %hf0, H0⟩, ⟨%d1, %f1, -, H1⟩, ⟨%d2, %f2, -, H2⟩, ⟨%d3, %f3, -, H3⟩, Hk⟩
    obtain rfl := harg0.eq_unread hf0
    sl_exec
    sl_step
    iapply Hk
    isplitl [H0]
    · iexists _; isplitr; · ipureintro; exact harg0.read_unread _
      iexact H0
    isplitl [H1]; · iexists _; iexact H1
    isplitl [H2]; · iexists _; iexact H2
    iexists _; iexact H3

/-- The stores of output 1 tile its buffer (checked by the kernel's evaluation), so they cover it. -/
theorem cover0_1 (c : Dev nD) (arg0 : Memref sig .tc .vmem S1408x2304 .bf16) (harg0 : arg0.IsWhole) (arg1 : Memref sig .tc .vmem S1408x2304 .fp8e4m3) (harg1 : arg1.IsWhole) (arg2 : Memref sig .tc .vmem S44x72 .f32) (harg2 : arg2.IsWhole) (arg3 : Memref sig .tc .vmem S1408x2304 .bf16) (harg3 : arg3.IsWhole)
    (x0 : Vec F S1408x2304 .bf16) (y : S1408x2304.Idx) :
    ∃ pc ∈ (kernelRun0 c arg0 harg0 arg1 harg1 arg2 harg2 arg3 harg3 x0).1, y ∈ pc.1.set :=
  View.cover_of_tiledL (kernelRun0 c arg0 harg0 arg1 harg1 arg2 harg2 arg3 harg3 x0).1 S32x128.size (by sl_kernel_rfl) y

/-- What the run leaves in output 1's staging buffer: its pieces read back over junk. -/
def out0_1 (c : Dev nD) (arg0 : Memref sig .tc .vmem S1408x2304 .bf16) (harg0 : arg0.IsWhole) (arg1 : Memref sig .tc .vmem S1408x2304 .fp8e4m3) (harg1 : arg1.IsWhole) (arg2 : Memref sig .tc .vmem S44x72 .f32) (harg2 : arg2.IsWhole) (arg3 : Memref sig .tc .vmem S1408x2304 .bf16) (harg3 : arg3.IsWhole)
    (x0 : Vec F S1408x2304 .bf16) : Vec F S1408x2304 .fp8e4m3 :=
  VO0_1.read (Elt F) (VO0_1.writes (Elt F) VO0_1.junk (kernelRun0 c arg0 harg0 arg1 harg1 arg2 harg2 arg3 harg3 x0).1)

/-- The stores of output 2 tile its buffer (checked by the kernel's evaluation), so they cover it. -/
theorem cover0_2 (c : Dev nD) (arg0 : Memref sig .tc .vmem S1408x2304 .bf16) (harg0 : arg0.IsWhole) (arg1 : Memref sig .tc .vmem S1408x2304 .fp8e4m3) (harg1 : arg1.IsWhole) (arg2 : Memref sig .tc .vmem S44x72 .f32) (harg2 : arg2.IsWhole) (arg3 : Memref sig .tc .vmem S1408x2304 .bf16) (harg3 : arg3.IsWhole)
    (x0 : Vec F S1408x2304 .bf16) (y : S44x72.Idx) :
    ∃ pc ∈ (kernelRun0 c arg0 harg0 arg1 harg1 arg2 harg2 arg3 harg3 x0).2.1, y ∈ pc.1.set :=
  View.cover_of_tiledL (kernelRun0 c arg0 harg0 arg1 harg1 arg2 harg2 arg3 harg3 x0).2.1 S44x72.size (by sl_kernel_rfl) y

/-- What the run leaves in output 2's staging buffer: its pieces read back over junk. -/
def out0_2 (c : Dev nD) (arg0 : Memref sig .tc .vmem S1408x2304 .bf16) (harg0 : arg0.IsWhole) (arg1 : Memref sig .tc .vmem S1408x2304 .fp8e4m3) (harg1 : arg1.IsWhole) (arg2 : Memref sig .tc .vmem S44x72 .f32) (harg2 : arg2.IsWhole) (arg3 : Memref sig .tc .vmem S1408x2304 .bf16) (harg3 : arg3.IsWhole)
    (x0 : Vec F S1408x2304 .bf16) : Vec F S44x72 .f32 :=
  VO0_2.read (Elt F) (VO0_2.writes (Elt F) VO0_2.junk (kernelRun0 c arg0 harg0 arg1 harg1 arg2 harg2 arg3 harg3 x0).2.1)

/-- The stores of output 3 tile its buffer (checked by the kernel's evaluation), so they cover it. -/
theorem cover0_3 (c : Dev nD) (arg0 : Memref sig .tc .vmem S1408x2304 .bf16) (harg0 : arg0.IsWhole) (arg1 : Memref sig .tc .vmem S1408x2304 .fp8e4m3) (harg1 : arg1.IsWhole) (arg2 : Memref sig .tc .vmem S44x72 .f32) (harg2 : arg2.IsWhole) (arg3 : Memref sig .tc .vmem S1408x2304 .bf16) (harg3 : arg3.IsWhole)
    (x0 : Vec F S1408x2304 .bf16) (y : S1408x2304.Idx) :
    ∃ pc ∈ (kernelRun0 c arg0 harg0 arg1 harg1 arg2 harg2 arg3 harg3 x0).2.2.1, y ∈ pc.1.set :=
  View.cover_of_tiledL (kernelRun0 c arg0 harg0 arg1 harg1 arg2 harg2 arg3 harg3 x0).2.2.1 S32x128.size (by sl_kernel_rfl) y

/-- What the run leaves in output 3's staging buffer: its pieces read back over junk. -/
def out0_3 (c : Dev nD) (arg0 : Memref sig .tc .vmem S1408x2304 .bf16) (harg0 : arg0.IsWhole) (arg1 : Memref sig .tc .vmem S1408x2304 .fp8e4m3) (harg1 : arg1.IsWhole) (arg2 : Memref sig .tc .vmem S44x72 .f32) (harg2 : arg2.IsWhole) (arg3 : Memref sig .tc .vmem S1408x2304 .bf16) (harg3 : arg3.IsWhole)
    (x0 : Vec F S1408x2304 .bf16) : Vec F S1408x2304 .bf16 :=
  VO0_3.read (Elt F) (VO0_3.writes (Elt F) VO0_3.junk (kernelRun0 c arg0 harg0 arg1 harg1 arg2 harg2 arg3 harg3 x0).2.2.1)

/-- What the body leaves in output `w`'s buffer at point `t`: the run's contents at the point's memrefs and input. -/
def outs0_1 (c : Dev nD) (t : Fin cfg0.N) : Vec F S1408x2304 .fp8e4m3 :=
  out0_1 c (st0_0 t) (hstage0_0 0) (st0_1 t) (hstage0_1 0) (st0_2 t) (hstage0_2 0) (st0_3 t) (hstage0_3 0) (iblk0 V c 0 t)
def outs0_2 (c : Dev nD) (t : Fin cfg0.N) : Vec F S44x72 .f32 :=
  out0_2 c (st0_0 t) (hstage0_0 0) (st0_1 t) (hstage0_1 0) (st0_2 t) (hstage0_2 0) (st0_3 t) (hstage0_3 0) (iblk0 V c 0 t)
def outs0_3 (c : Dev nD) (t : Fin cfg0.N) : Vec F S1408x2304 .bf16 :=
  out0_3 c (st0_0 t) (hstage0_0 0) (st0_1 t) (hstage0_1 0) (st0_2 t) (hstage0_2 0) (st0_3 t) (hstage0_3 0) (iblk0 V c 0 t)

/-! ## The pipeline's proof data -/

/-- The proof data of pipeline 0 on core `c`: the arrays as the region finds them (`V`); after the body at
    point `t` each input's buffer at its block and each output's at `outs0_W`; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => outs0_1 V c t
    | ⟨2, _⟩ => outs0_2 V c t
    | ⟨3, _⟩ => outs0_3 V c t
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = outs0_1 V c t := by dsimp only [dat0]
theorem after0_2 (c : Dev nD) (t : Fin cfg0.N) : (dat0 V c).after 2 t = outs0_2 V c t := by dsimp only [dat0]
theorem after0_3 (c : Dev nD) (t : Fin cfg0.N) : (dat0 V c).after 3 t = outs0_3 V c t := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so the run applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2, after0_3]
  unfold outs0_1 outs0_2 outs0_3 out0_1 out0_2 out0_3
  iintro ⟨HΦ, Ho, ⟨%d0, H0⟩, ⟨%d1, H1⟩, ⟨%d2, H2⟩, ⟨%d3, H3⟩⟩
  iapply ((kernelRun0 c _ _ _ _ _ _ _ _ (iblk0 V c 0 t)).2.2.2 Set.univ _)
  isplitl [H0]; · iexact H0
  isplitl [H1]; · iexists _; iexact H1
  isplitl [H2]; · iexists _; iexact H2
  isplitl [H3]; · iexists _; iexact H3
  iintro ⟨H0, ⟨%e1, H1⟩, ⟨%e2, H2⟩, ⟨%e3, H3⟩⟩
  isplitl [HΦ]; · iexact HΦ
  isplitl [Ho]; · iexact Ho
  isplitl [H0]; · iexact H0
  isplitl [H1]
  · unfold owns; iexists _; isplitr
    swap; · iexact H1
    ipureintro; exact View.read_writes_of_cover _ _ _ _ _ (cover0_1 c _ _ _ _ _ _ _ _ _)
  isplitl [H2]
  · unfold owns; iexists _; isplitr
    swap; · iexact H2
    ipureintro; exact View.read_writes_of_cover _ _ _ _ _ (cover0_2 c _ _ _ _ _ _ _ _ _)
  unfold owns; iexists _; isplitr
  swap; · iexact H3
  ipureintro; exact View.read_writes_of_cover _ _ _ _ _ (cover0_3 c _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Own

end
-- ==== Proof.KernelIdeal.Fold0.lean ====
/- The buffer contents of `proofs.«01_k».proof.KernelIdeal` as its main function goes: the fold through its two regions. -/
module

public import proofs.«01_k».proof.Proof.KernelIdeal.Region0
public import proofs.«01_k».proof.Proof.Gen.KernelIdeal.Frame.Region1
public import proofs.«01_k».proof.Proof.Gen.KernelIdeal.Frame.Hosts0

@[expose] public section

-- membership in a rectangle of production extents (`View.cover_of_tiled`): the elaborator's structural look
-- recurses once per coordinate of the long axes
set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch (region 0's entry). -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- The same read at the TensorCore's references (what region 0's proof data take). -/
abbrev V0 : (c : Dev nD) → (b : Ref sig .tc) → Buf (Elt F) ((c : Thread nD τ).loc b) := fun c b => W0 m ρ c b
/-- At region 0's exit: its arrays at what the pipeline leaves (the inputs as entered, each output's write-backs
    folded: `Dat.arrAt … N`), every other buffer as entered (Lib/Pipeline/FrameSuffix.lean `withArrays`). -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- A reference that is none of region 0's OUTPUT arrays keeps its entry contents across it: an input window's
    array is never written back (`Dat.arrAt_in`, `A_eq0`); any other buffer is left as is. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m ρ c (Proc.devRef .tc a) = m ((c : Thread nD τ).loc a) :=
  fun a ha => (W1_of m ρ c a (argsIn0 a ha)).trans (W0_args m ρ c a ha)
/-- The same read at the TensorCore's references (region 0's exit contents). -/
abbrev V1 : (c : Dev nD) → (b : Ref sig .tc) → Buf (Elt F) ((c : Thread nD τ).loc b) := fun c b => W1 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After `hostOps1` (region 1's entry). -/
abbrev W2 : Dev nD → Valuation τ sig (Elt F) := fun c => StableHlo.after hostOps1 (W1 m ρ c)
/-- A reference `hostOps1` does not write keeps its contents across it. -/
theorem W2_of (c : Dev nD) (r : Ref sig .tc) (h : r ∉ hostOps1_W) : W2 m ρ c (Proc.devRef .tc r) = W1 m ρ c (Proc.devRef .tc r) :=
  StableHlo.after_of_writes_sub hostOps1 _ hostOps1_writes h
theorem W2_args (c : Dev nD) : ∀ a ∈ argRefs, W2 m ρ c (Proc.devRef .tc a) = m ((c : Thread nD τ).loc a) :=
  fun a ha => (W2_of m ρ c a (hostOps1_args a ha)).trans (W1_args m ρ c a ha)
/-- The same read at the TensorCore's references (what region 1's proof data take). -/
abbrev V2 : (c : Dev nD) → (b : Ref sig .tc) → Buf (Elt F) ((c : Thread nD τ).loc b) := fun c b => W2 m ρ c b
/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched: no host stretch writes one and no region may change one (a region reads it
    through an input window or bypasses it) -/

theorem W3_main_arg0 (c : Dev nD) : W3 m ρ c (Proc.devRef .tc main_arg0) = m ((c : Thread nD τ).loc main_arg0) :=
  W3_args m ρ c main_arg0 (by decide)
theorem W3_main_arg1 (c : Dev nD) : W3 m ρ c (Proc.devRef .tc main_arg1) = m ((c : Thread nD τ).loc main_arg1) :=
  W3_args m ρ c main_arg1 (by decide)
end Cert.KernelIdeal.Own

end
-- ==== Proof.KernelIdeal.State.lean ====
/- The proof data and the thread state of `proofs.«01_k».proof.KernelIdeal` around its regions. -/
module

public import proofs.«01_k».proof.Proof.KernelIdeal.Fold0

@[expose] public section

-- membership in a rectangle of production extents (`View.cover_of_tiled`): the elaborator's structural look
-- recurses once per coordinate of the long axes
set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W3`, the generator register at some state. -/
abbrev Tₙ (c : Dev nD) : sProp 𝕄 := iprop(StableHlo.held (c : Thread nD τ) (Pipeline.ucRefs τ sig) (W3 m ρ c) ∗ ∃ r, prngReg c r)

end Cert.KernelIdeal.Own

end
-- ==== Proof.KernelIdeal.Record0.lean ====
/- The record of the weight quantiser's region of `proofs.«01_k».proof.KernelIdeal`. -/
module

public import proofs.«01_k».proof.Proof.KernelIdeal.State

@[expose] public section

-- membership in a rectangle of production extents (`View.cover_of_tiled`): the elaborator's structural look
-- recurses once per coordinate of the long axes
set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W0`, left at `W1`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Own

end
-- ==== Proof.KernelIdeal.Record1.lean ====
/- The record of the main region of `proofs.«01_k».proof.KernelIdeal`. -/
module

public import proofs.«01_k».proof.Proof.KernelIdeal.State

@[expose] public section

-- membership in a rectangle of production extents (`View.cover_of_tiled`): the elaborator's structural look
-- recurses once per coordinate of the long axes
set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Own

end
-- ==== Proof.KernelIdeal.Frame.lean ====
/- The frame certificate of `proofs.«01_k».proof.KernelIdeal`, from the records of its two regions. -/
module

public import proofs.«01_k».proof.Proof.KernelIdeal.Record0
public import proofs.«01_k».proof.Proof.KernelIdeal.Record1

@[expose] public section

-- membership in a rectangle of production extents (`View.cover_of_tiled`): the elaborator's structural look
-- recurses once per coordinate of the long axes
set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 3 segments in order: a host segment per stretch from its boundary's contents, a region per pallas_call. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run: at the compiled mesh, from any memory with zero counters, every weakly fair execution of @main on the
    TensorCores terminates, nothing faulting, and every final state has each unscoped buffer at the fold's last
    contents `W3` and every semaphore counter of the machine at zero. -/
theorem run : θ_run defs (onTc (τ := τ) (main (F := F))) ⟨m, fun _ => 0, ρ⟩ (fun r => (∀ c : Dev nD,
      ∀ b ∈ Pipeline.ucRefs τ sig, r.2.mem (((c : Thread nD τ)).1, b) = W3 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨h, funext fun g => hz g (.inr (no_unscoped g.2))⟩)

/-- The frame: every execution terminates, nothing faulting, the argument arrays end as launched and every semaphore
    counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨(h.1 c _ (mem_uc main_arg0 (by decide))).trans (W3_main_arg0 m ρ c),
     (h.1 c _ (mem_uc main_arg1 (by decide))).trans (W3_main_arg1 m ρ c)⟩, h.2⟩) (run m ρ)

end Cert.KernelIdeal.Own

end
-- ==== Proof.MTile.lean ====
/-
  What the main body stores, written once for every column tile and every quarter of the rows: the column maxima kept in
  the scratch, the scales, the codes, the values the codes stand for, and the blocks of the product. Each list of stores
  the run of the body finds is one of these.
-/
module

public import proofs.«01_k».proof.Proof.Gen.KernelIdeal.Frame.Region1
public import Idealize.ShloMosaic.Lib.Pipeline.FrameBody
public import Idealize.ShloMosaic.Lib.Tactic
public import Idealize.ShloMosaic.Lib.WholeRead

@[expose] public section

set_option maxRecDepth 16384

noncomputable section

namespace Cert.Proof

open Idealize.ShloMosaic Idealize.ShloMosaic.TcCoe Cert.KernelIdeal Cert.KernelIdeal.Gen

/-- The values `f (n - 1), …, f 0`, last first, as the stores of a run are listed. -/
def stack {α : Type} (f : ℕ → α) : ℕ → List α
  | 0 => []
  | n + 1 => f n :: stack f n

theorem mem_stack {α : Type} (f : ℕ → α) (p : α) : ∀ n : ℕ, p ∈ stack f n ↔ ∃ k < n, p = f k
  | 0 => by simp [stack]
  | n + 1 => by
    rw [stack, List.mem_cons, mem_stack f p n]
    constructor
    · rintro (rfl | ⟨k, hk, rfl⟩)
      · exact ⟨n, by omega, rfl⟩
      · exact ⟨k, by omega, rfl⟩
    · rintro ⟨k, hk, rfl⟩
      by_cases h : k = n
      · exact .inl (by rw [h])
      · exact .inr ⟨k, by omega, rfl⟩

variable {F : FTy → Type} [FloatOps F]

/-! ## Where the stores and loads lie -/

theorem inb_tile (t : ℕ) : ∀ a, (![0, 128 * (t % 18)] : Fin 2 → Nat) a + S512x128.size a ≤ S512x2304.size a := by
  intro a
  fin_cases a
  · change 0 + 512 ≤ 512; omega
  · change 128 * (t % 18) + 128 ≤ 2304; omega

/-- Column tile `t` of a block of rows. -/
abbrev tileRect (t : ℕ) : Rect S512x2304 := Rect.unit (s := S512x2304) ![0, 128 * (t % 18)] S512x128.size (inb_tile t)

theorem inb_top (k : ℕ) : ∀ a, (![576 * (k % 4) + 32 * (k / 4 % 18), 0, 0] : Fin 3 → Nat) a + S32x2x128.size a ≤ S2304x2x128.size a := by
  intro a
  fin_cases a
  · change 576 * (k % 4) + 32 * (k / 4 % 18) + 32 ≤ 2304; omega
  · change 0 + 2 ≤ 2; omega
  · change 0 + 128 ≤ 128; omega

/-- Where store `k` of the column maxima goes: quarter `k % 4` of the rows, tile `k / 4`. -/
abbrev topRect (k : ℕ) : Rect S2304x2x128 :=
  Rect.unit (s := S2304x2x128) ![576 * (k % 4) + 32 * (k / 4 % 18), 0, 0] S32x2x128.size (inb_top k)

theorem inb_load (q k : ℕ) : ∀ a, S72x2x128.size a = 0 ∨
    (![576 * (q % 4) + k % 8, 0, 0] : Fin 3 → Nat) a + (![8, 1, 1] : Fin 3 → Nat) a * (S72x2x128.size a - 1) < S2304x2x128.size a := by
  intro a
  right
  fin_cases a
  · change 576 * (q % 4) + k % 8 + 8 * 71 < 2304; omega
  · change 0 + 1 * 1 < 2; omega
  · change 0 + 1 * 127 < 128; omega

/-- Load `k` of quarter `q`: every eighth row of the quarter, from row `k` on. -/
abbrev loadBox (q k : ℕ) : LoadRect S2304x2x128 :=
  { off := ![576 * (q % 4) + k % 8, 0, 0], size := S72x2x128.size, stride := ![8, 1, 1], inb := inb_load q k }

/-! ## The column maxima -/

/-- What a tile stores for quarter `q`. -/
def topStore (q : ℕ) (b : Vec F S512x128 .bf16) : Vec F S32x2x128 .bf16 :=
  match q with
  | 0 => k1_pay7 b
  | 1 => k1_pay8 b
  | 2 => k1_pay9 b
  | _ => interleaveRows S32x2x128 (shapeCast S32x1x128 (k1_pay10 b) shapeCasts_S32x128_S32x1x128)
      (shapeCast S32x1x128 (k1_pay11 b) shapeCasts_S32x128_S32x1x128) bitcasts_S32x2x128_w16_S32x1x128_w32

/-- Store `k` of the column maxima, the tiles being `b`. -/
def topPiece (b : ℕ → Vec F S512x128 .bf16) (k : ℕ) : View.Piece (Elt F) S2304x2x128 .bf16 :=
  ⟨topRect k, topStore (k % 4) (b (k / 4))⟩

/-! ## The scales -/

/-- The rows of a load, even and odd in turn. -/
def words (v : Vec F S72x2x128 .bf16) : FVec F S144x128 .bf16 :=
  interleaveRows S144x128 (shapeCast S72x128 (rowsOfParity 0 S72x1x128 v bitcasts_S72x2x128_w16_S72x1x128_w32) shapeCasts_S72x1x128_S72x128)
    (shapeCast S72x128 (rowsOfParity 1 S72x1x128 v bitcasts_S72x2x128_w16_S72x1x128_w32) shapeCasts_S72x1x128_S72x128)
    bitcasts_S144x128_w16_S72x128_w32

/-- The elementwise maximum of the loads `0, …, n`. -/
def topWords (l : ℕ → Vec F S72x2x128 .bf16) : ℕ → FVec F S144x128 .bf16
  | 0 => words (l 0)
  | n + 1 => maximumf (topWords l n) (words (l (n + 1)))

/-- The even or the odd rows of the maximum of one quarter's eight loads. -/
def quarterTop (p : Fin 2) (l : ℕ → Vec F S72x2x128 .bf16) : FVec F S72x128 .bf16 :=
  rowsOfParity p S72x128 (topWords l 7) bitcasts_S144x128_w16_S72x128_w32

/-- The four quarters beside one another. -/
def quarters (p : Fin 2) (l : ℕ → ℕ → Vec F S72x2x128 .bf16) : FVec F S72x512 .bf16 :=
  concatenate S72x512 1 [⟨S72x128, quarterTop p (l 0)⟩, ⟨S72x128, quarterTop p (l 1)⟩, ⟨S72x128, quarterTop p (l 2)⟩, ⟨S72x128, quarterTop p (l 3)⟩]
    concatenates_S72x128_S72x128_S72x128_S72x128_S72x512_d1

/-- A column of exponents is raised by `b` where the power of two it then stands for is at most `x`. -/
def mStep (x : FVec F S72x512 .f32) (b : BitVec 32) (e : IVec S72x512 32) : IVec S72x512 32 :=
  have raised : IVec S72x512 32 := addi e (broadcast S72x512 b)
  select (cmpf .oge x (bitcastToFloat .f32 (shli raised (broadcast S72x512 23#32)))) raised e

/-- The exponent of every element. -/
def mExponent (x : FVec F S72x512 .f32) : IVec S72x512 32 :=
  mStep x 1#32 (mStep x 2#32 (mStep x 4#32 (mStep x 8#32 (mStep x 16#32 (mStep x 32#32 (mStep x 64#32 (mStep x 128#32 (broadcast S72x512 0#32))))))))

/-- The next power of two above every element, 1 where the exponent is that of zero or of an infinity. -/
def mPower (x : FVec F S72x512 .f32) : FVec F S72x512 .f32 :=
  bitcastToFloat .f32 (shli (select (ori (cmpi .eq (mExponent x) (broadcast S72x512 0#32)) (cmpi .eq (mExponent x) (broadcast S72x512 255#32)))
    (broadcast S72x512 127#32) (addi (mExponent x) (broadcast S72x512 1#32))) (broadcast S72x512 23#32))

/-- The scales from what the loads of the scratch hold, groups in rows. -/
def mColumns (l : ℕ → ℕ → Vec F S72x2x128 .bf16) : FVec F S72x512 .f32 :=
  have hi : FVec F S72x512 .f32 := extf .f32 (quarters 1 l) bitsLt_bf16_f32
  mPower (mulf (maximumf hi (extf .f32 (quarters 0 l) bitsLt_bf16_f32)) (broadcast S72x512 (Scalar.ofBits .f32 0x3B124925#32)))

/-- The scales with groups in columns, 56 unused columns of ones included. -/
def mScales (l : ℕ → ℕ → Vec F S72x2x128 .bf16) : FVec F S512x128 .f32 :=
  transpose S512x128 [1, 0] (concatenate S128x512 0 [⟨S72x512, mColumns l⟩, ⟨S56x512, broadcast S56x512 (Scalar.ofBits .f32 0x3F800000#32)⟩] concatenates_S72x512_S56x512_S128x512_d0) transposes_S128x512_p1_0_S512x128

/-! ## The codes and the values they stand for -/

/-- The scale of every lane of column tile `t`: lane `l` gets the scale of its group, `4 t + l / 32`. -/
def mLaneScale (s : FVec F S512x128 .f32) (t : ℕ) : FVec F S512x128 .f32 :=
  have w : IVec S512x128 32 := addi (k1_pay189 (iota .tc S512x128 32 [1] iota_S512x128_d1_w32) 32#32 k1_pay187 k1_pay188)
    (broadcast S512x128 (BitVec.ofNat 32 (4 * t)))
  have w' : IVec S512x128 32 := select (cmpi .slt w (broadcast S512x128 0#32)) (addi w (broadcast S512x128 128#32)) w
  dynamicGather 1 s (shapeCast S512x128 (shapeCast S512x128x1 w' shapeCasts_S512x128_S512x128x1) shapeCasts_S512x128x1_S512x128)

/-- The codes of a tile under the scales of its lanes. -/
def mCodeBlock (g : FVec F S512x128 .f32) (x : Vec F S512x128 .bf16) : FVec F S512x128 .fp8e4m3 :=
  have inv : FVec F S512x128 .bf16 := truncf .bf16 (divf (broadcast S512x128 (Scalar.ofBits .f32 0x3F800000#32)) g) bitsLt_bf16_f32
  have y : FVec F S512x128 .bf16 := mulf (shapeCast S512x128 x shapeCasts_S512x128_S512x128) inv
  truncf .fp8e4m3 (minimumf (broadcast S512x128 (Scalar.ofBits .bf16 0x43E0#16)) (maximumf (broadcast S512x128 (Scalar.ofBits .bf16 0xC3E0#16)) y))
    bitsLt_fp8e4m3_bf16

/-- The values the codes of a tile stand for. -/
def mDeqBlock (g : FVec F S512x128 .f32) (x : Vec F S512x128 .bf16) : FVec F S512x128 .bf16 :=
  shapeCast S512x128 (mulf (extf .bf16 (mCodeBlock g x) bitsLt_fp8e4m3_bf16) (truncf .bf16 g bitsLt_bf16_f32)) shapeCasts_S512x128_S512x128

/-- The store of tile `t`'s codes, and that of the values they stand for. -/
def codePiece (s : FVec F S512x128 .f32) (b : ℕ → Vec F S512x128 .bf16) (t : ℕ) : View.Piece (Elt F) S512x2304 .fp8e4m3 :=
  ⟨tileRect t, mCodeBlock (mLaneScale s t) (b t)⟩
def deqPiece (s : FVec F S512x128 .f32) (b : ℕ → Vec F S512x128 .bf16) (t : ℕ) : View.Piece (Elt F) S512x2304 .bf16 :=
  ⟨tileRect t, mDeqBlock (mLaneScale s t) (b t)⟩

/-! ## The blocks of the product -/

theorem inb_wide (h j : ℕ) : ∀ a, (![256 * (h % 2), 384 * (j % 3)] : Fin 2 → Nat) a + S256x384.size a ≤ S512x1408.size a := by
  intro a
  fin_cases a
  · change 256 * (h % 2) + 256 ≤ 512; omega
  · change 384 * (j % 3) + 384 ≤ 1408; omega

theorem inb_last (h : ℕ) : ∀ a, (![256 * (h % 2), 1152] : Fin 2 → Nat) a + S256x256.size a ≤ S512x1408.size a := by
  intro a
  fin_cases a
  · change 256 * (h % 2) + 256 ≤ 512; omega
  · change 1152 + 256 ≤ 1408; omega

theorem inb_half (h : ℕ) : ∀ a, (![256 * (h % 2), 0] : Fin 2 → Nat) a + S256x2304.size a ≤ S512x2304.size a := by
  intro a
  fin_cases a
  · change 256 * (h % 2) + 256 ≤ 512; omega
  · change 0 + 2304 ≤ 2304; omega

theorem inb_rows (j : ℕ) : ∀ a, (![384 * (j % 3), 0] : Fin 2 → Nat) a + S384x2304.size a ≤ S1408x2304.size a := by
  intro a
  fin_cases a
  · change 384 * (j % 3) + 384 ≤ 1408; omega
  · change 0 + 2304 ≤ 2304; omega

theorem inb_end : ∀ a, (![1152, 0] : Fin 2 → Nat) a + S256x2304.size a ≤ S1408x2304.size a := by
  intro a
  fin_cases a
  · change 1152 + 256 ≤ 1408; omega
  · change 0 + 2304 ≤ 2304; omega

abbrev halfRect (h : ℕ) : Rect S512x2304 := Rect.unit (s := S512x2304) ![256 * (h % 2), 0] S256x2304.size (inb_half h)
abbrev rowsRect (j : ℕ) : Rect S1408x2304 := Rect.unit (s := S1408x2304) ![384 * (j % 3), 0] S384x2304.size (inb_rows j)
abbrev endRect : Rect S1408x2304 := Rect.unit (s := S1408x2304) ![1152, 0] S256x2304.size inb_end

/-- Store `k` of the product: half `k / 4` of the rows against rows `384 (k % 4)` and on of W. -/
def dxPiece (d : ℕ → Vec F S256x2304 .bf16) (w : ℕ → Vec F S384x2304 .bf16) (e : Vec F S256x2304 .bf16) (k : ℕ) :
    View.Piece (Elt F) S512x1408 .bf16 :=
  if k % 4 = 3 then
    ⟨Rect.unit (s := S512x1408) ![256 * (k / 4 % 2), 1152] S256x256.size (inb_last (k / 4)), k1_pay3 e (d (k / 4))⟩
  else
    ⟨Rect.unit (s := S512x1408) ![256 * (k / 4 % 2), 384 * (k % 4 % 3)] S256x384.size (inb_wide (k / 4) (k % 4)), k1_pay2 (w (k % 4)) (d (k / 4))⟩

/-! ## The run's lists of stores -/

section Run
variable (c : Dev nD) (i : grid1.Coords) (arg1 : Memref sig .tc .vmem S512x2304 .bf16) (harg1 : arg1.IsWhole) (arg2 : Memref sig .tc .vmem S1408x2304 .bf16) (harg2 : arg2.IsWhole) (arg3 : Memref sig .tc .vmem S512x1408 .bf16) (harg3 : arg3.IsWhole) (arg4 : Memref sig .tc .vmem S512x2304 .fp8e4m3) (harg4 : arg4.IsWhole) (arg5 : Memref sig .tc .vmem S512x72 .f32) (harg5 : arg5.IsWhole) (arg6 : Memref sig .tc .vmem S2304x2x128 .bf16) (harg6 : arg6.IsWhole) (arg7 : Memref sig .tc .vmem S512x2304 .bf16) (harg7 : arg7.IsWhole)
    (x0 : Vec F S512x2304 .bf16) (x1 : Vec F S1408x2304 .bf16)

/-- The tiles of dy as the body loads them, -/
def tileOf (t : ℕ) : Vec F S512x128 .bf16 := View.readAt (Elt F) arg1.view (tileRect t).toLoadRect (harg1.unread x0)
/-- the loads of the scratch of column maxima, -/
def topOf (q k : ℕ) : Vec F S72x2x128 .bf16 := arg6.view.readCov (stack (topPiece (tileOf arg1 harg1 x0)) 72) (loadBox q k)
/-- the halves of the scratch of the values the codes stand for, -/
def halfOf (h : ℕ) : Vec F S256x2304 .bf16 :=
  arg7.view.readCov (stack (deqPiece (mScales (topOf arg1 harg1 arg6 x0)) (tileOf arg1 harg1 x0)) 18) (halfRect h).toLoadRect
/-- and the rows of W. -/
def rowsOf (j : ℕ) : Vec F S384x2304 .bf16 := View.readAt (Elt F) arg2.view (rowsRect j).toLoadRect (harg2.unread x1)
def endOf : Vec F S256x2304 .bf16 := View.readAt (Elt F) arg2.view endRect.toLoadRect (harg2.unread x1)

theorem tops_eq : (kernelRun1_A c i arg1 harg1 arg2 harg2 arg3 harg3 arg4 harg4 arg5 harg5 arg6 harg6 arg7 harg7 x0 x1).2.2.2.1 = stack (topPiece (tileOf arg1 harg1 x0)) 72 := by sl_kernel_rfl
theorem scales_eq : (kernelRun1_A c i arg1 harg1 arg2 harg2 arg3 harg3 arg4 harg4 arg5 harg5 arg6 harg6 arg7 harg7 x0 x1).2.2.1 = [⟨Rect.unit (s := S512x72) ![0, 0] S512x72.size inb_S512x72_S512x72_0_0,
    extractStridedSlice S512x72 ![0, 0] (mScales (topOf arg1 harg1 arg6 x0)) slices_S512x128_o0_0_S512x72⟩] := by sl_kernel_rfl
theorem codes_eq : (kernelRun1_A c i arg1 harg1 arg2 harg2 arg3 harg3 arg4 harg4 arg5 harg5 arg6 harg6 arg7 harg7 x0 x1).2.1 = stack (codePiece (mScales (topOf arg1 harg1 arg6 x0)) (tileOf arg1 harg1 x0)) 18 := by sl_kernel_rfl
theorem deqs_eq : (kernelRun1_A c i arg1 harg1 arg2 harg2 arg3 harg3 arg4 harg4 arg5 harg5 arg6 harg6 arg7 harg7 x0 x1).2.2.2.2.1 = stack (deqPiece (mScales (topOf arg1 harg1 arg6 x0)) (tileOf arg1 harg1 x0)) 18 := by sl_kernel_rfl
theorem dx_eq : (kernelRun1_A c i arg1 harg1 arg2 harg2 arg3 harg3 arg4 harg4 arg5 harg5 arg6 harg6 arg7 harg7 x0 x1).1 = stack (dxPiece (halfOf arg1 harg1 arg6 arg7 x0) (rowsOf arg2 harg2 x1) (endOf arg2 harg2 x1)) 8 := by sl_kernel_rfl

end Run

end Cert.Proof
-- ==== Proof.WTile.lean ====
/-
  What the W quantiser stores, written once for every column tile and every row of blocks: its codes, its scales and the
  values the codes stand for. Each list of stores the run of the body finds is one of these.
-/
module

public import proofs.«01_k».proof.Proof.KernelIdeal.Region0
public import proofs.«01_k».proof.Proof.MTile

@[expose] public section

set_option maxRecDepth 16384

noncomputable section

namespace Cert.Proof

open Idealize.ShloMosaic Idealize.ShloMosaic.TcCoe Cert.KernelIdeal Cert.KernelIdeal.Gen

variable {F : FTy → Type} [FloatOps F]

/-! ## The blocks -/

/-- The scale of every lane of column tile `t`: lane `l` of row `r` gets the scale of its group, `4 t + l / 32`. -/
def wLaneScale (s : FVec F S48x128 .f32) (t : ℕ) : FVec F S48x128 .f32 :=
  have w : IVec S48x128 32 := addi (k0_pay8 (iota .tc S48x128 32 [1] iota_S48x128_d1_w32) 32#32) (broadcast S48x128 (BitVec.ofNat 32 (4 * t)))
  have w' : IVec S48x128 32 := select (cmpi .slt w (broadcast S48x128 0#32)) (addi w (broadcast S48x128 128#32)) w
  dynamicGather 1 s (shapeCast S48x128 (shapeCast S48x128x1 w' shapeCasts_S48x128_S48x128x1) shapeCasts_S48x128x1_S48x128)

theorem slices_row (r : ℕ) : S48x128.Slices ![r % 44, 0] S1x128 := by
  refine ⟨rfl, fun a => ?_⟩
  fin_cases a
  · change r % 44 + 1 ≤ 48; omega
  · change 0 + 128 ≤ 128; omega

theorem inb_block (k : ℕ) : ∀ a, (![32 * (k % 44), 128 * (k / 44 % 18)] : Fin 2 → Nat) a + S32x128.size a ≤ S1408x2304.size a := by
  intro a
  fin_cases a
  · change 32 * (k % 44) + 32 ≤ 1408; omega
  · change 128 * (k / 44 % 18) + 128 ≤ 2304; omega

/-- Block `k` of W: block row `k % 44` of column tile `k / 44`. -/
abbrev wRect (k : ℕ) : Rect S1408x2304 := Rect.unit (s := S1408x2304) ![32 * (k % 44), 128 * (k / 44 % 18)] S32x128.size (inb_block k)

/-- The codes of a block under the scales of its lanes. -/
def wCodeBlock (s : FVec F S1x128 .f32) (x : Vec F S32x128 .bf16) : FVec F S32x128 .fp8e4m3 :=
  have inv : FVec F S1x128 .f32 := divf (broadcast S1x128 (Scalar.ofBits .f32 0x3F800000#32)) s
  have y : FVec F S32x128 .f32 := mulf (extf .f32 x bitsLt_bf16_f32) (broadcastTo S32x128 inv broadcasts_S1x128_S32x128)
  truncf .fp8e4m3 (minimumf (broadcast S32x128 (Scalar.ofBits .f32 0x43E00000#32)) (maximumf (broadcast S32x128 (Scalar.ofBits .f32 0xC3E00000#32)) y))
    bitsLt_fp8e4m3_f32

/-- The values the codes of a block stand for. -/
def wDeqBlock (s : FVec F S1x128 .f32) (x : Vec F S32x128 .bf16) : FVec F S32x128 .bf16 :=
  mulf (extf .bf16 (wCodeBlock s x) bitsLt_fp8e4m3_bf16) (broadcastTo S32x128 (truncf .bf16 s bitsLt_bf16_f32) broadcasts_S1x128_S32x128)

/-- The lane scales of block row `r` of a tile. -/
abbrev wRow (s : FVec F S48x128 .f32) (r : ℕ) : FVec F S1x128 .f32 := extractStridedSlice S1x128 ![r % 44, 0] s (slices_row r)

/-- All scales, four rows past the last block row included, -/
def wScales (x : Vec F S1408x2304 .bf16) : FVec F S48x72 .f32 := k0_pay5 (k0_pay2 x) (k0_pay3 x) (k0_pay4 x)

/-- and beside them 56 unused columns of ones. -/
def wPadded (x : Vec F S1408x2304 .bf16) : FVec F S48x128 .f32 :=
  concatenate S48x128 1 [⟨S48x72, wScales x⟩, ⟨S48x56, broadcast S48x56 (Scalar.ofBits .f32 0x3F800000#32)⟩] concatenates_S48x72_S48x56_S48x128_d1

/-- The store of block `k`'s codes, and that of the values they stand for; `v` is all of W, `b` its blocks. -/
def wCodePiece (v : Vec F S1408x2304 .bf16) (b : ℕ → Vec F S32x128 .bf16) (k : ℕ) : View.Piece (Elt F) S1408x2304 .fp8e4m3 :=
  ⟨wRect k, wCodeBlock (wRow (wLaneScale (wPadded v) (k / 44)) k) (b k)⟩
def wDeqPiece (v : Vec F S1408x2304 .bf16) (b : ℕ → Vec F S32x128 .bf16) (k : ℕ) : View.Piece (Elt F) S1408x2304 .bf16 :=
  ⟨wRect k, wDeqBlock (wRow (wLaneScale (wPadded v) (k / 44)) k) (b k)⟩

/-! ## The run's lists of stores -/

section Run
variable (c : Dev nD) (arg0 : Memref sig .tc .vmem S1408x2304 .bf16) (harg0 : arg0.IsWhole) (arg1 : Memref sig .tc .vmem S1408x2304 .fp8e4m3) (harg1 : arg1.IsWhole) (arg2 : Memref sig .tc .vmem S44x72 .f32) (harg2 : arg2.IsWhole) (arg3 : Memref sig .tc .vmem S1408x2304 .bf16) (harg3 : arg3.IsWhole)
    (x0 : Vec F S1408x2304 .bf16)

/-- W as the body loads it, whole -/
def wAllOf : Vec F S1408x2304 .bf16 :=
  View.readAt (Elt F) arg0.view (Rect.unit (s := S1408x2304) ![0, 0] S1408x2304.size inb_S1408x2304_S1408x2304_0_0).toLoadRect (harg0.unread x0)
/-- and by blocks. -/
def wBlockOf (k : ℕ) : Vec F S32x128 .bf16 := View.readAt (Elt F) arg0.view (wRect k).toLoadRect (harg0.unread x0)

theorem wScales_eq : (Own.kernelRun0 c arg0 harg0 arg1 harg1 arg2 harg2 arg3 harg3 x0).2.1 = [⟨Rect.unit (s := S44x72) ![0, 0] S44x72.size inb_S44x72_S44x72_0_0,
    extractStridedSlice S44x72 ![0, 0] (wScales (wAllOf arg0 harg0 x0)) slices_S48x72_o0_0_S44x72⟩] := by sl_kernel_rfl
theorem wCodes_eq : (Own.kernelRun0 c arg0 harg0 arg1 harg1 arg2 harg2 arg3 harg3 x0).1 = stack (wCodePiece (wAllOf arg0 harg0 x0) (wBlockOf arg0 harg0 x0)) 792 := by sl_kernel_rfl
theorem wDeqs_eq : (Own.kernelRun0 c arg0 harg0 arg1 harg1 arg2 harg2 arg3 harg3 x0).2.2.1 = stack (wDeqPiece (wAllOf arg0 harg0 x0) (wBlockOf arg0 harg0 x0)) 792 := by sl_kernel_rfl

end Run

end Cert.Proof
-- ==== Proof.Scale.lean ====
/- The scale of a block: the exponent of the largest magnitude, found by eight comparisons (the kernel) and as the least
   power of two above it (the reference), are one function on the extended reals. -/
module

public import Idealize.ShloMosaic.Lib.Pointwise

@[expose] public section

noncomputable section

namespace Cert.Proof

open Idealize.ShloMosaic

/-- The float whose word has the biased exponent `c` and an empty mantissa. -/
def power (c : BitVec 32) : EReal := Ideal.ofBits .f32 (IntOp.shli .vector c 23#32)

/-- One comparison of the search: the exponent `e` raised by `b` if the power there does not exceed `x`. -/
def step (x : EReal) (e b : BitVec 32) : BitVec 32 :=
  Scalar.select (Ideal.cmp .oge x (power (IntOp.addi e b))) (IntOp.addi e b) e

/-- The biased exponent of `x` by eight comparisons. -/
def exponent (x : EReal) : BitVec 32 :=
  step x (step x (step x (step x (step x (step x (step x (step x 0#32 128#32) 64#32) 32#32) 16#32) 8#32) 4#32) 2#32) 1#32

/-- The biased exponent of the scale, from that of the magnitude. -/
def raised (e : BitVec 32) : BitVec 32 :=
  Scalar.select (IntOp.ori (IntOp.cmpi .eq e 0#32) (IntOp.cmpi .eq e 255#32)) 127#32 (IntOp.addi e 1#32)

/-- The scale as the kernel computes it, from the largest magnitude over 448. -/
def scaleK (x : EReal) : EReal := power (raised (exponent x))

/-- The scale as the reference computes it. -/
def scaleR (x : EReal) : EReal :=
  Scalar.select (IntOp.ori (Ideal.cmp .olt x (Ideal.ofBits .f32 0x00800000#32)) (Ideal.cmp .oeq x (Ideal.ofBits .f32 0x7F800000#32)))
    (Ideal.ofBits .f32 0x3F800000#32)
    (Finset.univ.fold min (Ideal.ofBits .f32 0x7F800000#32) fun k : Fin 253 =>
      Scalar.select (Ideal.cmp .ogt (Ideal.exp2 ((((BitVec.ofNat 32 k.val - 125#32).toInt : ℝ) : EReal))) x)
        (Ideal.exp2 ((((BitVec.ofNat 32 k.val - 125#32).toInt : ℝ) : EReal))) (Ideal.ofBits .f32 0x7F800000#32))

/-- The three fields of the word with biased exponent `n` and an empty mantissa. -/
theorem fields (n : Fin 256) :
    ((BitVec.ofNat 32 n.val <<< 23).extractLsb' 31 1 == 1#1) = false ∧
      ((BitVec.ofNat 32 n.val <<< 23).extractLsb' 23 8).toNat = n.val ∧ ((BitVec.ofNat 32 n.val <<< 23).extractLsb' 0 23).toNat = 0 := by
  revert n; decide +kernel

/-- The power of biased exponent `n`, `n` from 1 to 254. -/
theorem power_ofNat (n : ℕ) (h₁ : 1 ≤ n) (h₂ : n ≤ 254) : power (BitVec.ofNat 32 n) = (((2 : ℝ) ^ ((n : ℤ) - 127) : ℝ) : EReal) := by
  obtain ⟨hs, he, hf⟩ := fields ⟨n, by omega⟩
  dsimp only at hs he hf
  have hsh : IntOp.shli .vector (BitVec.ofNat 32 n) 23#32 = BitVec.ofNat 32 n <<< 23 := rfl
  unfold power
  rw [hsh]
  generalize BitVec.ofNat 32 n <<< 23 = w at hs he hf ⊢
  unfold Ideal.ofBits Ideal.ieee
  dsimp only
  rw [show w.extractLsb' (8 + 23) 1 = w.extractLsb' 31 1 from rfl, hs, he, hf, if_neg (by omega), if_neg (by omega)]
  congr 1
  have : (2 : ℝ) ^ ((n : ℤ) - 127) = 2 ^ (23 : ℤ) * 2 ^ ((n : ℤ) - 127 - 23) := by
    rw [← zpow_add₀ (by norm_num)]; congr 1; ring
  rw [this]
  norm_num

/-- The power of biased exponent 255 is the infinity. -/
theorem power_255 : power 255#32 = ⊤ := by
  obtain ⟨hs, he, hf⟩ := fields ⟨255, by omega⟩
  dsimp only at hs he hf
  have hsh : IntOp.shli .vector 255#32 23#32 = BitVec.ofNat 32 255 <<< 23 := rfl
  unfold power
  rw [hsh]
  generalize BitVec.ofNat 32 255 <<< 23 = w at hs he hf ⊢
  unfold Ideal.ofBits Ideal.ieee
  dsimp only
  rw [show w.extractLsb' (8 + 23) 1 = w.extractLsb' 31 1 from rfl, hs, he, hf]
  norm_num

theorem inf_word : Ideal.ofBits .f32 0x7F800000#32 = (⊤ : EReal) := power_255
theorem one_word : Ideal.ofBits .f32 0x3F800000#32 = (1 : EReal) := by
  have := power_ofNat 127 (by norm_num) (by norm_num)
  rw [show ((127 : ℕ) : ℤ) - 127 = 0 by norm_num, zpow_zero] at this
  exact this
theorem least_word : Ideal.ofBits .f32 0x00800000#32 = power 1#32 := rfl

/-- Powers grow with the exponent. -/
theorem power_le {a b : ℕ} (h₁ : 1 ≤ a) (h : a ≤ b) (h₂ : b ≤ 255) : power (BitVec.ofNat 32 a) ≤ power (BitVec.ofNat 32 b) := by
  rcases Nat.lt_or_ge b 255 with hb | hb
  · rw [power_ofNat a h₁ (by omega), power_ofNat b (by omega) (by omega)]
    exact EReal.coe_le_coe_iff.mpr (zpow_le_zpow_right₀ (by norm_num) (by omega))
  · obtain rfl : b = 255 := by omega
    rw [power_255]; exact le_top

/-- What the search knows after the comparison of weight `b`: the exponent `n` found so far is too large for nothing, and the one
    answer lies among the `b` from it on. -/
def Found (x : EReal) (e : BitVec 32) (b : ℕ) : Prop :=
  ∃ n : ℕ, e = BitVec.ofNat 32 n ∧ n + b ≤ 256 ∧ (n = 0 ∨ power (BitVec.ofNat 32 n) ≤ x) ∧ (n + b = 256 ∨ x < power (BitVec.ofNat 32 (n + b)))

theorem Found.step {x : EReal} {e : BitVec 32} (b : ℕ) (hb : 1 ≤ b) (h : Found x e (b + b)) : Found x (step x e (BitVec.ofNat 32 b)) b := by
  obtain ⟨n, rfl, hn, hlo, hhi⟩ := h
  have hadd : IntOp.addi (BitVec.ofNat 32 n) (BitVec.ofNat 32 b) = BitVec.ofNat 32 (n + b) := (BitVec.ofNat_add n b).symm
  unfold Proof.step
  rw [hadd]
  by_cases hx : power (BitVec.ofNat 32 (n + b)) ≤ x
  · rw [show Ideal.cmp .oge x (power (BitVec.ofNat 32 (n + b))) = 1#1 by rw [Ideal.cmp_oge]; simp [hx]]
    exact ⟨n + b, rfl, by omega, .inr hx, by rwa [Nat.add_assoc]⟩
  · rw [show Ideal.cmp .oge x (power (BitVec.ofNat 32 (n + b))) = 0#1 by rw [Ideal.cmp_oge]; simp [hx]]
    exact ⟨n, rfl, by omega, hlo, .inr (lt_of_not_ge hx)⟩

theorem found (x : EReal) : Found x (exponent x) 1 := by
  have h : Found x 0#32 (128 + 128) := ⟨0, rfl, by omega, .inl rfl, .inl rfl⟩
  exact (((((((h.step 128 (by omega)).step 64 (by omega)).step 32 (by omega)).step 16 (by omega)).step 8 (by omega)).step 4
    (by omega)).step 2 (by omega)).step 1 (by omega)

/-- The reference's exponent `k - 125` as a power. -/
theorem exp2_index (k : Fin 253) :
    Ideal.exp2 ((((BitVec.ofNat 32 k.val - 125#32).toInt : ℝ) : EReal)) = power (BitVec.ofNat 32 (k.val + 2)) := by
  have hk : (BitVec.ofNat 32 k.val - 125#32).toInt = (k.val : ℤ) - 125 := by
    revert k; decide +kernel
  rw [hk, Ideal.exp2_coe, power_ofNat _ (by omega) (by omega)]
  congr 1
  rw [Real.rpow_eq_pow, Real.rpow_intCast]
  congr 1
  push_cast; ring

/-- The scale from the exponent, by cases. -/
theorem raised_ofNat (n : ℕ) (h : n ≤ 255) :
    raised (BitVec.ofNat 32 n) = if n = 0 ∨ n = 255 then 127#32 else BitVec.ofNat 32 (n + 1) := by
  have : ∀ m : Fin 256, raised (BitVec.ofNat 32 m.val) = if m.val = 0 ∨ m.val = 255 then 127#32 else BitVec.ofNat 32 (m.val + 1) := by
    decide +kernel
  exact this ⟨n, by omega⟩

theorem ori_one (c : BitVec 1) : 1#1 ||| c = 1#1 := by
  revert c; decide

theorem select_one {α : Type} {c : BitVec 1} (h : c = 1#1) (a b : α) : Scalar.select c a b = a := by
  subst h; rfl
theorem select_zero {α : Type} {c : BitVec 1} (h : c = 0#1) (a b : α) : Scalar.select c a b = b := by
  subst h; rfl

/-- The two scales are equal at every extended real. -/
theorem scaleK_eq_scaleR (x : EReal) : scaleK x = scaleR x := by
  obtain ⟨n, he, hn, hlo, hhi⟩ := found x
  unfold scaleK scaleR
  rw [he, raised_ofNat n (by omega), inf_word, one_word, least_word]
  have h127 : power 127#32 = 1 := one_word
  by_cases h0 : n = 0
  · subst h0
    have hx : x < power 1#32 := by simpa using hhi
    rw [if_pos (.inl rfl), h127, select_one]
    rw [Ideal.cmp_olt, Ideal.cmp_oeq]; simp [hx, IntOp.ori, ori_one]
  have hlo : power (BitVec.ofNat 32 n) ≤ x := hlo.resolve_left h0
  have hge : power 1#32 ≤ x := (power_le (a := 1) (by omega) (by omega) (by omega)).trans hlo
  by_cases h255 : n = 255
  · subst h255
    have hx : x = ⊤ := top_le_iff.mp (power_255 ▸ hlo)
    rw [if_pos (.inr rfl), h127, select_one]
    rw [Ideal.cmp_olt, Ideal.cmp_oeq]; simp [hx, IntOp.ori]
  have hhi : x < power (BitVec.ofNat 32 (n + 1)) := hhi.resolve_left (by omega)
  have hx : x ≠ ⊤ := (hhi.trans_le le_top).ne
  rw [if_neg (by omega), select_zero (by
    rw [Ideal.cmp_olt, Ideal.cmp_oeq]; simp [hx, hge.not_gt, IntOp.ori])]
  symm
  apply le_antisymm
  · rcases Nat.lt_or_ge n 254 with h | h
    · refine (Finset.fold_min_le _).mpr (.inr ⟨⟨n - 1, by omega⟩, Finset.mem_univ _, ?_⟩)
      rw [exp2_index, select_one]
      · exact le_of_eq (by congr 2; dsimp only; omega)
      · rw [Ideal.cmp_ogt]
        have : n - 1 + 2 = n + 1 := by omega
        simp [this, hhi]
    · obtain rfl : n = 254 := by omega
      rw [show power (BitVec.ofNat 32 (254 + 1)) = ⊤ from power_255]; exact le_top
  · refine (Finset.le_fold_min _).mpr ⟨le_top, fun k _ => ?_⟩
    rw [exp2_index]
    by_cases hk : x < power (BitVec.ofNat 32 (k.val + 2))
    · rw [select_one (by rw [Ideal.cmp_ogt]; simp [hk])]
      refine power_le (by omega) ?_ (by omega)
      by_contra hlt
      exact absurd (hk.trans_le ((power_le (by omega) (by omega) (by omega)).trans hlo)) (lt_irrefl _)
    · rw [select_zero (by rw [Ideal.cmp_ogt]; simp [hk])]; exact le_top

end Cert.Proof
-- ==== Proof.Spec.lean ====
/-
  The five results as functions of the two arguments: scales, codes, the values the codes stand for, and their product.
-/
module

public import proofs.«01_k».proof.Proof.Scale

@[expose] public section

noncomputable section

namespace Cert.Proof

open Idealize.ShloMosaic

/-- The absolute value. -/
def mag (x : EReal) : EReal := max x (-x)

/-- The scale of a group whose largest absolute value is `top`: one over 448 of it, raised to the next power of two. -/
def scaleOf (top : EReal) : EReal := scaleK (top * Ideal.ofBits .f32 0x3B124925#32)

/-- Clipping to the codes' range, the bounds written in the narrow format. -/
def clipB (y : EReal) : EReal := min (Ideal.ofBits .bf16 0x43E0#16) (max (Ideal.ofBits .bf16 0xC3E0#16) y)

/-- Clipping to the codes' range, the bounds written in the wide format. -/
def clipF (y : EReal) : EReal := min (Ideal.ofBits .f32 0x43E00000#32) (max (Ideal.ofBits .f32 0xC3E00000#32) y)

/-- The group of a column. -/
def grp (c : Fin 2304) : Fin 72 := ⟨c.val / 32, by omega⟩
/-- Column `j` of group `g`. -/
def col (g : Fin 72) (j : Fin 32) : Fin 2304 := ⟨g.val * 32 + j.val, by omega⟩
/-- The block of a row of W. -/
def blk (d : Fin 1408) : Fin 44 := ⟨d.val / 32, by omega⟩
/-- Row `i` of block `R` of W. -/
def row (R : Fin 44) (i : Fin 32) : Fin 1408 := ⟨R.val * 32 + i.val, by omega⟩

section Dy
variable (y : Fin 2304 → EReal)
/-- The largest absolute value of a group of a row of dy. -/
def dyTop (g : Fin 72) : EReal := Finset.univ.sup fun j : Fin 32 => mag (y (col g j))
def dyScale (g : Fin 72) : EReal := scaleOf (dyTop y g)
def dyCode (c : Fin 2304) : EReal := clipB (y c * Ideal.div 1 (dyScale y (grp c)))
def dyDeq (c : Fin 2304) : EReal := dyCode y c * dyScale y (grp c)
end Dy

section W
variable (w : Fin 1408 → Fin 2304 → EReal)
/-- The largest absolute value of a 32 by 32 block of W. -/
def wTop (R : Fin 44) (g : Fin 72) : EReal := Finset.univ.sup fun p : Fin 32 × Fin 32 => mag (w (row R p.1) (col g p.2))
def wScale (R : Fin 44) (g : Fin 72) : EReal := scaleOf (wTop w R g)
def wCode (d : Fin 1408) (c : Fin 2304) : EReal := clipF (w d c * Ideal.div 1 (wScale w (blk d) (grp c)))
def wDeq (d : Fin 1408) (c : Fin 2304) : EReal := wCode w d c * wScale w (blk d) (grp c)
end W

/-- One element of dx: the row of dy against the row of W. -/
def dxAt (y : Fin 2304 → EReal) (w : Fin 1408 → Fin 2304 → EReal) (d : Fin 1408) : EReal := ∑ c : Fin 2304, dyDeq y c * wDeq w d c

/-- The least word of the narrow and of the wide format is the least extended real. -/
theorem bot_word : Ideal.ofBits .f32 0xFF800000#32 = (⊥ : EReal) := by
  have h : (0xFF800000#32).extractLsb' 31 1 = 1#1 ∧ ((0xFF800000#32).extractLsb' 23 8).toNat = 255 ∧ ((0xFF800000#32).extractLsb' 0 23).toNat = 0 := by
    decide +kernel
  obtain ⟨hs, he, hf⟩ := h
  generalize 0xFF800000#32 = b at hs he hf ⊢
  unfold Ideal.ofBits Ideal.ieee
  dsimp only
  rw [show b.extractLsb' (8 + 23) 1 = b.extractLsb' 31 1 from rfl, hs, he, hf]
  norm_num
theorem bot_word16 : Ideal.ofBits .bf16 0xFF80#16 = (⊥ : EReal) := by
  have h : (0xFF80#16).extractLsb' 15 1 = 1#1 ∧ ((0xFF80#16).extractLsb' 7 8).toNat = 255 ∧ ((0xFF80#16).extractLsb' 0 7).toNat = 0 := by
    decide +kernel
  obtain ⟨hs, he, hf⟩ := h
  generalize 0xFF80#16 = b at hs he hf ⊢
  unfold Ideal.ofBits Ideal.ieee
  dsimp only
  rw [show b.extractLsb' (8 + 7) 1 = b.extractLsb' 15 1 from rfl, hs, he, hf]
  norm_num

/-- The greatest of `f 0, …, f n`, taken in turn. -/
def runMax (f : ℕ → EReal) : ℕ → EReal
  | 0 => f 0
  | n + 1 => max (runMax f n) (f (n + 1))

/-- A running maximum from the least element is the supremum. -/
theorem fold_max_eq_sup {ι : Type} (s : Finset ι) (f : ι → EReal) : s.fold max ⊥ f = s.sup f := rfl

end Cert.Proof
-- ==== Proof.MValue.lean ====
/-
  What a block of the main body stores, at an index: scales, codes and the product, as the functions of the block of dy and
  of the values W's codes stand for.
-/
module

public import proofs.«01_k».proof.Proof.MTile
public import proofs.«01_k».proof.Proof.Spec
public import Idealize.ShloMosaic.Lib.Pointwise

@[expose] public section

set_option maxRecDepth 16384

noncomputable section

namespace Cert.Proof

open Idealize.ShloMosaic Idealize.ShloMosaic.TcCoe Cert.KernelIdeal Cert.KernelIdeal.Gen

/-! ## Where an index of a store lies -/

theorem unit_emb2 {n0 n1 m0 m1 : ℕ} (o0 o1 : ℕ)
    (inb : ∀ a, (![o0, o1] : Fin 2 → ℕ) a + (⟨2, ![m0, m1]⟩ : Shape).size a ≤ (⟨2, ![n0, n1]⟩ : Shape).size a)
    (x : Fin m0) (y : Fin m1) (h0 : o0 + x.val < n0) (h1 : o1 + y.val < n1) :
    (Rect.unit (s := ⟨2, ![n0, n1]⟩) ![o0, o1] (⟨2, ![m0, m1]⟩ : Shape).size inb).emb (ix2 x y) = ix2 ⟨o0 + x.val, h0⟩ ⟨o1 + y.val, h1⟩ := by
  funext a
  apply Fin.ext
  fin_cases a
  · change o0 + 1 * x.val = o0 + x.val; omega
  · change o1 + 1 * y.val = o1 + y.val; omega

theorem unit_emb3 {n0 n1 n2 m0 m1 m2 : ℕ} (o0 o1 o2 : ℕ)
    (inb : ∀ a, (![o0, o1, o2] : Fin 3 → ℕ) a + (⟨3, ![m0, m1, m2]⟩ : Shape).size a ≤ (⟨3, ![n0, n1, n2]⟩ : Shape).size a)
    (x : Fin m0) (y : Fin m1) (z : Fin m2) (h0 : o0 + x.val < n0) (h1 : o1 + y.val < n1) (h2 : o2 + z.val < n2) :
    (Rect.unit (s := ⟨3, ![n0, n1, n2]⟩) ![o0, o1, o2] (⟨3, ![m0, m1, m2]⟩ : Shape).size inb).emb (ix3 x y z) =
      ix3 ⟨o0 + x.val, h0⟩ ⟨o1 + y.val, h1⟩ ⟨o2 + z.val, h2⟩ := by
  funext a
  apply Fin.ext
  fin_cases a
  · change o0 + 1 * x.val = o0 + x.val; omega
  · change o1 + 1 * y.val = o1 + y.val; omega
  · change o2 + 1 * z.val = o2 + z.val; omega

theorem load_idx (q k : ℕ) (n : Fin 72) (p : Fin 2) (l : Fin 128) :
    (loadBox q k).idx (ix3 n p l) = ix3 (⟨576 * (q % 4) + k % 8 + 8 * n.val, by omega⟩ : Fin 2304) p l := by
  funext a
  apply Fin.ext
  fin_cases a
  · rfl
  · change 0 + 1 * p.val = p.val; omega
  · change 0 + 1 * l.val = l.val; omega

theorem at_ix2 {n0 n1 : ℕ} {α : Type} (f : (⟨2, ![n0, n1]⟩ : Shape).Idx → α) {a a' : Fin n0} {b b' : Fin n1} (h : a.val = a'.val) (h' : b.val = b'.val) :
    f (ix2 a b) = f (ix2 a' b') := by
  rw [Fin.ext h, Fin.ext h']

/-! ## Running maxima -/

theorem le_runMax (f : ℕ → EReal) : ∀ n k : ℕ, k ≤ n → f k ≤ runMax f n
  | 0, k, h => by rw [Nat.le_zero.mp h]; exact le_refl _
  | n + 1, k, h => by
    rcases Nat.lt_or_ge n k with h' | h'
    · rw [show k = n + 1 by omega]; exact le_max_right _ _
    · exact (le_runMax f n k h').trans (le_max_left _ _)

theorem runMax_le (f : ℕ → EReal) (b : EReal) : ∀ n : ℕ, (∀ k ≤ n, f k ≤ b) → runMax f n ≤ b
  | 0, h => h 0 (le_refl _)
  | n + 1, h => max_le (runMax_le f b n fun k hk => h k (by omega)) (h (n + 1) (le_refl _))

theorem runMax_pairs (f : ℕ → EReal) : max (runMax (fun k => max (f (2 * k + 1)) (f (16 + 2 * k + 1))) 7) (runMax (fun k => max (f (2 * k)) (f (16 + 2 * k))) 7) =
    Finset.univ.sup fun j : Fin 32 => f j.val := by
  apply le_antisymm
  · have h : ∀ j : ℕ, j < 32 → f j ≤ Finset.univ.sup fun j : Fin 32 => f j.val := fun j hj =>
      Finset.le_sup (f := fun j : Fin 32 => f j.val) (Finset.mem_univ ⟨j, hj⟩)
    exact max_le (runMax_le _ _ _ fun k hk => max_le (h _ (by omega)) (h _ (by omega)))
      (runMax_le _ _ _ fun k hk => max_le (h _ (by omega)) (h _ (by omega)))
  · refine Finset.sup_le fun j _ => ?_
    have hj := j.isLt
    have odd := le_runMax (fun k => max (f (2 * k + 1)) (f (16 + 2 * k + 1))) 7
    have even := le_runMax (fun k => max (f (2 * k)) (f (16 + 2 * k))) 7
    rcases Nat.even_or_odd' (j.val % 16) with ⟨k, hk | hk⟩ <;> rcases Nat.lt_or_ge j.val 16 with h | h
    · exact ((le_of_eq (congrArg f (by omega))).trans (le_max_left _ _)).trans ((even k (by omega)).trans (le_max_right _ _))
    · exact ((le_of_eq (congrArg f (by omega))).trans (le_max_right _ _)).trans ((even k (by omega)).trans (le_max_right _ _))
    · exact ((le_of_eq (congrArg f (by omega))).trans (le_max_left _ _)).trans ((odd k (by omega)).trans (le_max_left _ _))
    · exact ((le_of_eq (congrArg f (by omega))).trans (le_max_right _ _)).trans ((odd k (by omega)).trans (le_max_left _ _))

theorem runMax_congr {f f' : ℕ → EReal} : ∀ n : ℕ, (∀ k ≤ n, f k = f' k) → runMax f n = runMax f' n
  | 0, h => h 0 (le_refl _)
  | n + 1, h => congrArg₂ max (runMax_congr n fun k hk => h k (by omega)) (h (n + 1) (le_refl _))

/-! ## The column maxima -/

theorem fold_apply (b : Vec Ideal S512x128 .bf16) (r : Fin 64) (c : Fin 512) : k1_pay4 b (ix2 r c) =
    max (mag (b (ix2 c (⟨r.val / 16 * 32 + r.val % 16, by omega⟩ : Fin 128)))) (mag (b (ix2 c (⟨r.val / 16 * 32 + 16 + r.val % 16, by omega⟩ : Fin 128)))) := by
  pointwise [k1_pay4]
  rfl

theorem topStore_apply (q : ℕ) (hq : q < 4) (b : Vec Ideal S512x128 .bf16) (j : Fin 32) (p : Fin 2) (l : Fin 128) : topStore q b (ix3 j p l) =
   k1_pay4 b (ix2 (⟨2*j.val+p.val, by omega⟩ : Fin 64) (⟨128*q+l.val, by omega⟩ : Fin 512)) := by
  obtain rfl | rfl | rfl | rfl : q = 0 ∨ q = 1 ∨ q = 2 ∨ q = 3 := by omega
  · pointwise [topStore, k1_pay7, k1_pay5, k1_pay6]
    fin_cases p <;> rfl
  · pointwise [topStore, k1_pay8, k1_pay5, k1_pay6]
    fin_cases p <;> rfl
  · pointwise [topStore, k1_pay9, k1_pay5, k1_pay6]
    fin_cases p <;> rfl
  · pointwise [topStore, k1_pay10, k1_pay11, k1_pay5, k1_pay6]
    fin_cases p <;> rfl

/-! ## The scales -/

theorem words_apply (v : Vec Ideal S72x2x128 .bf16) (n : Fin 72) (p : Fin 2) (l : Fin 128) : words v (ix2 (⟨2 * n.val + p.val, by omega⟩ : Fin 144) l) = v (ix3 n p l) := by
  pointwise [words]
  fin_cases p
  · simp [Nat.mul_add_div]
  · simp [Nat.mul_add_div, Nat.mul_add_mod]

theorem topWords_apply (l : ℕ → Vec Ideal S72x2x128 .bf16) (n : Fin 72) (p : Fin 2) (a : Fin 128) : ∀ m, topWords l m (ix2 (⟨2 * n.val + p.val, by omega⟩ : Fin 144) a) = runMax (fun k => l k (ix3 n p a)) m
  | 0 => words_apply _ n p a
  | m + 1 => congrArg₂ max (topWords_apply l n p a m) (words_apply _ n p a)

theorem quarterTop_apply (p : Fin 2) (l : ℕ → Vec Ideal S72x2x128 .bf16) (n : Fin 72) (a : Fin 128) : quarterTop p l (ix2 n a) = runMax (fun k => l k (ix3 n p a)) 7 := by
  refine Eq.trans ?_ (topWords_apply l n p a 7)
  pointwise [quarterTop]

theorem quarterTop_congr (p : Fin 2) (l : ℕ → ℕ → Vec Ideal S72x2x128 .bf16) (n : Fin 72) {q q' : ℕ} {a a' : Fin 128} (h : q = q') (h' : a.val = a'.val) :
    quarterTop p (l q) (ix2 n a) = quarterTop p (l q') (ix2 n a') := by
  rw [h, Fin.ext h']

theorem quarters_apply (p : Fin 2) (l : ℕ → ℕ → Vec Ideal S72x2x128 .bf16) (n : Fin 72) (r : Fin 512) : quarters p l (ix2 n r) =
    runMax (fun k => l (r.val / 128) k (ix3 n p (⟨r.val % 128, by omega⟩ : Fin 128))) 7 := by
  rw [← quarterTop_apply]
  have hr : r.val < 512 := r.isLt
  pointwise [quarters]
  split_ifs with h0 h1 h2 <;> refine quarterTop_congr p l n ?_ ?_ <;> first | omega | (dsimp only; omega)

theorem mStep_apply (x : FVec Ideal S72x512 .f32) (b : BitVec 32) (e : IVec S72x512 32) (i : S72x512.Idx) : mStep x b e i = step (x i) (e i) b := rfl

theorem mExponent_apply (x : FVec Ideal S72x512 .f32) (i : S72x512.Idx) : mExponent x i = exponent (x i) := by
  unfold mExponent exponent
  simp only [mStep_apply]
  rfl

theorem mPower_apply (x : FVec Ideal S72x512 .f32) (i : S72x512.Idx) : mPower x i = scaleK (x i) := by
  have h := mExponent_apply x i
  unfold mPower scaleK
  rw [← h]
  generalize mExponent x = e
  rfl

theorem mScales_apply (l : ℕ → ℕ → Vec Ideal S72x2x128 .bf16) (r : Fin 512) (g : Fin 72) :
   mScales l (ix2 r (⟨g.val, by omega⟩ : Fin 128)) = scaleOf (max (quarters 1 l (ix2 g r)) (quarters 0 l (ix2 g r))) := by
  have h : mScales l (ix2 r (⟨g.val, by omega⟩ : Fin 128)) = mColumns l (ix2 g r) := by
    unfold mScales
    generalize mColumns l = v
    pointwise
  rw [h]
  exact mPower_apply _ _

/-! ## The codes and the values they stand for -/

theorem lane_div : ∀ l : Fin 128, Scalar.select
          (IntOp.andi
            (IntOp.cmpi CmpIPredicate.ne
              (IntOp.subi (BitVec.setWidth 32 (IntOp.cmpi CmpIPredicate.sgt (BitVec.ofNat 32 l.val) 0#32))
                (BitVec.setWidth 32 (IntOp.cmpi CmpIPredicate.slt (BitVec.ofNat 32 l.val) 0#32)))
              (Scalar.subi (Scalar.extui (Scalar.cmpi CmpIPredicate.sgt 32#32 0#32))
                (Scalar.extui (Scalar.cmpi CmpIPredicate.slt 32#32 0#32))))
            (IntOp.cmpi CmpIPredicate.ne (IntOp.remsi ArithUnit.vector (BitVec.ofNat 32 l.val) 32#32) 0#32))
          (IntOp.subi (IntOp.divsi ArithUnit.vector (BitVec.ofNat 32 l.val) 32#32) 1#32)
          (IntOp.divsi ArithUnit.vector (BitVec.ofNat 32 l.val) 32#32) =
        BitVec.ofNat 32 (l.val / 32) := by decide +kernel

theorem lane_group (r : Fin 512) (l : Fin 128) : k1_pay189 (iota .tc S512x128 32 [1] iota_S512x128_d1_w32) 32#32 k1_pay187 k1_pay188 (ix2 r l) = BitVec.ofNat 32 (l.val / 32) := by
  have e : iota .tc S512x128 32 [1] iota_S512x128_d1_w32 (ix2 r l) = BitVec.ofNat 32 l.val := by
    pointwise
  generalize iota .tc S512x128 32 [1] iota_S512x128_d1_w32 = v at e ⊢
  pointwise [k1_pay189, k1_pay187, k1_pay188]
  simp only [e]
  exact lane_div l

theorem lane_index (t : Fin 18) (k : Fin 4) : ((Scalar.select (IntOp.cmpi .slt (IntOp.addi (BitVec.ofNat 32 k.val) (BitVec.ofNat 32 (4*t.val))) 0#32) (IntOp.addi (IntOp.addi (BitVec.ofNat 32 k.val) (BitVec.ofNat 32 (4*t.val))) 128#32) (IntOp.addi (BitVec.ofNat 32 k.val) (BitVec.ofNat 32 (4*t.val)))).toNat % 128) = 4 * t.val + k.val := by
  revert t k
  decide +kernel

theorem mLaneScale_apply (s : FVec Ideal S512x128 .f32) (t : Fin 18) (r : Fin 512) (l : Fin 128) :
   mLaneScale s t.val (ix2 r l) = s (ix2 r ⟨4*t.val+l.val/32, by omega⟩) := by
  have e := lane_group r l
  generalize hw : k1_pay189 (iota .tc S512x128 32 [1] iota_S512x128_d1_w32) 32#32 k1_pay187 k1_pay188 = w at e
  unfold mLaneScale
  rw [hw]
  pointwise
  simp only [e]
  exact congrArg (fun a : Fin 128 => s (ix2 r a)) (Fin.ext (lane_index t ⟨l.val / 32, by omega⟩))

theorem mCodeBlock_apply (g : FVec Ideal S512x128 .f32) (x : Vec Ideal S512x128 .bf16) (r : Fin 512) (l : Fin 128) :
   mCodeBlock g x (ix2 r l) = clipB (x (ix2 r l) * Ideal.div 1 (g (ix2 r l))) := by
  rw [← one_word]
  pointwise [mCodeBlock]
  rfl

theorem mDeqBlock_apply (g : FVec Ideal S512x128 .f32) (x : Vec Ideal S512x128 .bf16) (r : Fin 512) (l : Fin 128) :
   mDeqBlock g x (ix2 r l) = mCodeBlock g x (ix2 r l) * g (ix2 r l) := by
  pointwise [mDeqBlock]

/-! ## The blocks of the product -/

theorem dx2_apply (w : Vec Ideal S384x2304 .bf16) (y : Vec Ideal S256x2304 .bf16) (r : Fin 256) (d : Fin 384) :
   k1_pay2 w y (ix2 r d) = ∑ c : Fin 2304, w (ix2 d c) * y (ix2 r c) := by
  pointwise [k1_pay2]

theorem dx3_apply (w : Vec Ideal S256x2304 .bf16) (y : Vec Ideal S256x2304 .bf16) (r : Fin 256) (d : Fin 256) :
   k1_pay3 w y (ix2 r d) = ∑ c : Fin 2304, w (ix2 d c) * y (ix2 r c) := by
  pointwise [k1_pay3]

/-! ## The stores -/

section Run
variable (arg1 : Memref sig .tc .vmem S512x2304 .bf16) (harg1 : arg1.IsWhole) (arg2 : Memref sig .tc .vmem S1408x2304 .bf16) (harg2 : arg2.IsWhole)
  (arg6 : Memref sig .tc .vmem S2304x2x128 .bf16) (arg7 : Memref sig .tc .vmem S512x2304 .bf16) (x0 : Vec Ideal S512x2304 .bf16) (x1 : Vec Ideal S1408x2304 .bf16)

theorem tileOf_apply (t : ℕ) (r : Fin 512) (l : Fin 128) :
    tileOf arg1 harg1 x0 t (ix2 r l) = x0 (ix2 r (⟨128 * (t % 18) + l.val, by omega⟩ : Fin 2304)) := by
  refine (harg1.readAt_unread x0 (tileRect t).toLoadRect (ix2 r l)).trans (congrArg x0 ?_)
  refine (unit_emb2 (n0 := 512) (n1 := 2304) 0 (128 * (t % 18)) (inb_tile t) r l (by omega) (by omega)).trans ?_
  congr 1
  exact Fin.ext (Nat.zero_add _)

/-- What the scratch of column maxima holds. -/
def topAt : Vec Ideal S2304x2x128 .bf16 := fun y =>
  have h : (y 0).val < 2304 := (y 0).isLt
  have h1 : (y 1).val < 2 := (y 1).isLt
  have h2 : (y 2).val < 128 := (y 2).isLt
  max (mag (x0 (ix2 (⟨128 * ((y 0).val / 576) + (y 2).val, by omega⟩ : Fin 512)
      (⟨128 * ((y 0).val % 576 / 32) + ((y 0).val % 32 / 8 * 32 + (2 * ((y 0).val % 8) + (y 1).val)), by omega⟩ : Fin 2304))))
    (mag (x0 (ix2 (⟨128 * ((y 0).val / 576) + (y 2).val, by omega⟩ : Fin 512)
      (⟨128 * ((y 0).val % 576 / 32) + ((y 0).val % 32 / 8 * 32 + 16 + (2 * ((y 0).val % 8) + (y 1).val)), by omega⟩ : Fin 2304))))

theorem topPiece_apply (k : ℕ) (hk : k < 72) (j : Fin 32) (p : Fin 2) (l : Fin 128) :
    topStore (k % 4) (tileOf arg1 harg1 x0 (k / 4)) (ix3 j p l) = topAt x0 ((topRect k).emb (ix3 j p l)) := by
  refine Eq.trans ?_ (congrArg (topAt x0) (unit_emb3 (n0 := 2304) (n1 := 2) (n2 := 128) _ _ _ (inb_top k) j p l (by omega) (by omega) (by omega)).symm)
  rw [topStore_apply _ (by omega), fold_apply, tileOf_apply, tileOf_apply]
  unfold topAt
  have hj := j.isLt
  have hp := p.isLt
  have hl := l.isLt
  refine congrArg₂ max (congrArg mag (at_ix2 x0 ?_ ?_)) (congrArg mag (at_ix2 x0 ?_ ?_)) <;> simp only [ix3_0, ix3_1, ix3_2] <;> omega

theorem topOf_apply (q k : ℕ) (hq : q < 4) (hk : k < 8) (n : Fin 72) (p : Fin 2) (l : Fin 128) :
    topOf arg1 harg1 arg6 x0 q k (ix3 n p l) =
      max (mag (x0 (ix2 (⟨128 * q + l.val, by omega⟩ : Fin 512) (⟨32 * n.val + (2 * k + p.val), by omega⟩ : Fin 2304))))
        (mag (x0 (ix2 (⟨128 * q + l.val, by omega⟩ : Fin 512) (⟨32 * n.val + (16 + 2 * k + p.val), by omega⟩ : Fin 2304)))) := by
  have hn := n.isLt
  have hp := p.isLt
  have hl := l.isLt
  unfold topOf
  rw [View.readCov_eq_canon']
  have e := load_idx q k n p l
  refine (congrArg (View.canon _) e).trans ?_
  refine (View.canon_apply_of_pieces (topAt x0) _ ?_ _ ?_).trans ?_
  · intro P hP x
    obtain ⟨m, hm, rfl⟩ := (mem_stack _ _ _).mp hP
    rw [eq_ix3 x]
    exact topPiece_apply arg1 harg1 x0 m hm _ _ _
  · refine ⟨_, (mem_stack _ _ _).mpr ⟨4 * ((8 * n.val + k) / 32) + q, by omega, rfl⟩, ?_⟩
    refine (Rect.mem_set_unit (inb := inb_top _)).mpr fun a => ?_
    fin_cases a
    · constructor
      · change 576 * ((4 * ((8 * n.val + k) / 32) + q) % 4) + 32 * ((4 * ((8 * n.val + k) / 32) + q) / 4 % 18) ≤ 576 * (q % 4) + k % 8 + 8 * n.val
        omega
      · change 576 * (q % 4) + k % 8 + 8 * n.val < 576 * ((4 * ((8 * n.val + k) / 32) + q) % 4) + 32 * ((4 * ((8 * n.val + k) / 32) + q) / 4 % 18) + 32
        omega
    · exact ⟨Nat.zero_le _, (show p.val < 0 + 2 by omega)⟩
    · exact ⟨Nat.zero_le _, (show l.val < 0 + 128 by omega)⟩
  · unfold topAt
    refine congrArg₂ max (congrArg mag (at_ix2 x0 ?_ ?_)) (congrArg mag (at_ix2 x0 ?_ ?_)) <;> simp only [ix3_0, ix3_1, ix3_2] <;> omega

/-- The scale of group `g` of row `r`. -/
theorem mScale_value (r : Fin 512) (g : Fin 72) :
    mScales (topOf arg1 harg1 arg6 x0) (ix2 r (⟨g.val, by omega⟩ : Fin 128)) = dyScale (fun c => x0 (ix2 r c)) g := by
  have hg := g.isLt
  have hr := r.isLt
  rw [mScales_apply]
  unfold dyScale dyTop
  refine congrArg scaleOf ?_
  rw [quarters_apply, quarters_apply]
  have e : ∀ (p : Fin 2) (k : ℕ), k ≤ 7 → topOf arg1 harg1 arg6 x0 (r.val / 128) k (ix3 g p (⟨r.val % 128, by omega⟩ : Fin 128)) =
      max (mag (x0 (ix2 r (⟨(32 * g.val + (2 * k + p.val)) % 2304, by omega⟩ : Fin 2304))))
        (mag (x0 (ix2 r (⟨(32 * g.val + (16 + 2 * k + p.val)) % 2304, by omega⟩ : Fin 2304)))) := by
    intro p k hk
    have hp := p.isLt
    rw [topOf_apply _ _ _ _ _ _ (by omega) (by omega)]
    refine congrArg₂ max (congrArg mag (at_ix2 x0 ?_ ?_)) (congrArg mag (at_ix2 x0 ?_ ?_)) <;> dsimp only <;> omega
  rw [runMax_congr 7 (e 1), runMax_congr 7 (e 0)]
  refine (runMax_pairs fun j => mag (x0 (ix2 r (⟨(32 * g.val + j) % 2304, by omega⟩ : Fin 2304)))).trans ?_
  refine Finset.sup_congr rfl fun j _ => congrArg mag (at_ix2 x0 rfl ?_)
  have hj := j.isLt
  change (32 * g.val + j.val) % 2304 = g.val * 32 + j.val
  omega

theorem laneScale_value (t : ℕ) (ht : t < 18) (r : Fin 512) (l : Fin 128) :
    mLaneScale (mScales (topOf arg1 harg1 arg6 x0)) t (ix2 r l) =
      dyScale (fun c => x0 (ix2 r c)) (grp (⟨128 * (t % 18) + l.val, by omega⟩ : Fin 2304)) := by
  have hl := l.isLt
  rw [← mScale_value arg1 harg1 arg6]
  refine (mLaneScale_apply _ ⟨t, ht⟩ r l).trans (at_ix2 _ rfl ?_)
  change 4 * t + l.val / 32 = (128 * (t % 18) + l.val) / 32
  omega

/-- The codes of a tile, -/
theorem code_value (t : ℕ) (ht : t < 18) (r : Fin 512) (l : Fin 128) :
    mCodeBlock (mLaneScale (mScales (topOf arg1 harg1 arg6 x0)) t) (tileOf arg1 harg1 x0 t) (ix2 r l) =
      dyCode (fun c => x0 (ix2 r c)) (⟨128 * (t % 18) + l.val, by omega⟩ : Fin 2304) := by
  rw [mCodeBlock_apply, tileOf_apply, laneScale_value _ _ _ _ t ht]
  rfl

/-- and the values they stand for. -/
theorem deq_value (t : ℕ) (ht : t < 18) (r : Fin 512) (l : Fin 128) :
    mDeqBlock (mLaneScale (mScales (topOf arg1 harg1 arg6 x0)) t) (tileOf arg1 harg1 x0 t) (ix2 r l) =
      dyDeq (fun c => x0 (ix2 r c)) (⟨128 * (t % 18) + l.val, by omega⟩ : Fin 2304) := by
  rw [mDeqBlock_apply, code_value _ _ _ _ t ht, laneScale_value _ _ _ _ t ht]
  rfl

theorem mem_tile (r : Fin 512) (c : Fin 2304) : ix2 r c ∈ (tileRect (c.val / 128)).set := by
  have hr := r.isLt
  have hc := c.isLt
  refine Rect.mem_set_unit.mpr fun a => ?_
  fin_cases a
  · exact ⟨Nat.zero_le _, (show r.val < 0 + 512 by omega)⟩
  · constructor
    · change 128 * (c.val / 128 % 18) ≤ c.val; omega
    · change c.val < 128 * (c.val / 128 % 18) + 128; omega

theorem codes_canon (r : Fin 512) (c : Fin 2304) :
    View.canon (stack (codePiece (mScales (topOf arg1 harg1 arg6 x0)) (tileOf arg1 harg1 x0)) 18) (ix2 r c) = dyCode (fun c => x0 (ix2 r c)) c := by
  refine View.canon_apply_of_pieces (e := .fp8e4m3) (fun y => dyCode (fun c => x0 (ix2 (n0 := 512) (n1 := 2304) (y 0) c)) (y 1)) _ ?_ _
    ⟨codePiece (mScales (topOf arg1 harg1 arg6 x0)) (tileOf arg1 harg1 x0) (c.val / 128), (mem_stack _ _ _).mpr ⟨_, by omega, rfl⟩, mem_tile r c⟩
  intro P hP x
  obtain ⟨t, ht, rfl⟩ := (mem_stack _ _ _).mp hP
  rw [eq_ix2 x]
  refine (code_value arg1 harg1 arg6 x0 t ht _ _).trans ?_
  have e := unit_emb2 (n0 := 512) (n1 := 2304) 0 (128 * (t % 18)) (inb_tile t) (x 0) (x 1) (by have : (x 0).val < 512 := (x 0).isLt; omega) (by have : (x 1).val < 128 := (x 1).isLt; omega)
  refine Eq.trans ?_ (congrArg (fun y : S512x2304.Idx => dyCode (fun c => x0 (ix2 (n0 := 512) (n1 := 2304) (y 0) c)) (y 1)) e.symm)
  dsimp only [ix2_0, ix2_1]
  congr 1
  funext c
  exact at_ix2 x0 (Nat.zero_add _).symm rfl

theorem deqs_canon (r : Fin 512) (c : Fin 2304) :
    View.canon (stack (deqPiece (mScales (topOf arg1 harg1 arg6 x0)) (tileOf arg1 harg1 x0)) 18) (ix2 r c) = dyDeq (fun c => x0 (ix2 r c)) c := by
  refine View.canon_apply_of_pieces (e := .bf16) (fun y => dyDeq (fun c => x0 (ix2 (n0 := 512) (n1 := 2304) (y 0) c)) (y 1)) _ ?_ _
    ⟨deqPiece (mScales (topOf arg1 harg1 arg6 x0)) (tileOf arg1 harg1 x0) (c.val / 128), (mem_stack _ _ _).mpr ⟨_, by omega, rfl⟩, mem_tile r c⟩
  intro P hP x
  obtain ⟨t, ht, rfl⟩ := (mem_stack _ _ _).mp hP
  rw [eq_ix2 x]
  refine (deq_value arg1 harg1 arg6 x0 t ht _ _).trans ?_
  have e := unit_emb2 (n0 := 512) (n1 := 2304) 0 (128 * (t % 18)) (inb_tile t) (x 0) (x 1) (by have : (x 0).val < 512 := (x 0).isLt; omega) (by have : (x 1).val < 128 := (x 1).isLt; omega)
  refine Eq.trans ?_ (congrArg (fun y : S512x2304.Idx => dyDeq (fun c => x0 (ix2 (n0 := 512) (n1 := 2304) (y 0) c)) (y 1)) e.symm)
  dsimp only [ix2_0, ix2_1]
  congr 1
  funext c
  exact at_ix2 x0 (Nat.zero_add _).symm rfl

theorem halfOf_apply (h : ℕ) (r : Fin 256) (c : Fin 2304) :
    halfOf arg1 harg1 arg6 arg7 x0 h (ix2 r c) = dyDeq (fun c => x0 (ix2 (⟨256 * (h % 2) + r.val, by omega⟩ : Fin 512) c)) c := by
  unfold halfOf
  rw [View.readCov_eq_canon', ← deqs_canon arg1 harg1 arg6]
  refine congrArg (View.canon _) ((unit_emb2 (n0 := 512) (n1 := 2304) _ _ (inb_half h) r c (by omega) (by omega)).trans ?_)
  congr 1
  exact Fin.ext (Nat.zero_add _)

theorem rowsOf_apply (j : ℕ) (d : Fin 384) (c : Fin 2304) :
    rowsOf arg2 harg2 x1 j (ix2 d c) = x1 (ix2 (⟨384 * (j % 3) + d.val, by omega⟩ : Fin 1408) c) := by
  refine (harg2.readAt_unread x1 (rowsRect j).toLoadRect (ix2 d c)).trans (congrArg x1 ?_)
  refine (unit_emb2 (n0 := 1408) (n1 := 2304) _ _ (inb_rows j) d c (by omega) (by omega)).trans ?_
  congr 1
  exact Fin.ext (Nat.zero_add _)

theorem endOf_apply (d : Fin 256) (c : Fin 2304) :
    endOf arg2 harg2 x1 (ix2 d c) = x1 (ix2 (⟨1152 + d.val, by omega⟩ : Fin 1408) c) := by
  refine (harg2.readAt_unread x1 endRect.toLoadRect (ix2 d c)).trans (congrArg x1 ?_)
  refine (unit_emb2 (n0 := 1408) (n1 := 2304) _ _ inb_end d c (by omega) (by omega)).trans ?_
  congr 1
  exact Fin.ext (Nat.zero_add _)

/-- One element of the product. -/
def dxOf : Vec Ideal S512x1408 .bf16 := fun y =>
  ∑ c : Fin 2304, dyDeq (fun c => x0 (ix2 (n0 := 512) (n1 := 2304) (y 0) c)) c * x1 (ix2 (n0 := 1408) (n1 := 2304) (y 1) c)

theorem dxPiece_apply (k : ℕ) : ∀ x : (dxPiece (halfOf arg1 harg1 arg6 arg7 x0) (rowsOf arg2 harg2 x1) (endOf arg2 harg2 x1) k).1.shape.Idx,
    (dxPiece (halfOf arg1 harg1 arg6 arg7 x0) (rowsOf arg2 harg2 x1) (endOf arg2 harg2 x1) k).2 x =
      dxOf x0 x1 ((dxPiece (halfOf arg1 harg1 arg6 arg7 x0) (rowsOf arg2 harg2 x1) (endOf arg2 harg2 x1) k).1.emb x) := by
  by_cases h : k % 4 = 3
  · rw [show dxPiece (halfOf arg1 harg1 arg6 arg7 x0) (rowsOf arg2 harg2 x1) (endOf arg2 harg2 x1) k = ⟨Rect.unit (s := S512x1408) ![256 * (k / 4 % 2), 1152] S256x256.size (inb_last (k / 4)), k1_pay3 (endOf arg2 harg2 x1) (halfOf arg1 harg1 arg6 arg7 x0 (k / 4))⟩ from if_pos h]
    intro x
    rw [eq_ix2 (n0 := 256) (n1 := 256) x]
    have e := unit_emb2 (n0 := 512) (n1 := 1408) _ _ (inb_last (k / 4)) (x 0) (x 1) (by have : (x 0).val < 256 := (x 0).isLt; omega) (by have : (x 1).val < 256 := (x 1).isLt; omega)
    refine Eq.trans ?_ (congrArg (dxOf x0 x1) e.symm)
    refine (dx3_apply _ _ _ _).trans (Finset.sum_congr rfl fun c _ => ?_)
    exact (mul_comm _ _).trans (congrArg₂ (· * ·) (halfOf_apply arg1 harg1 arg6 arg7 x0 (k / 4) (x 0) c) (endOf_apply arg2 harg2 x1 (x 1) c))
  · rw [show dxPiece (halfOf arg1 harg1 arg6 arg7 x0) (rowsOf arg2 harg2 x1) (endOf arg2 harg2 x1) k = ⟨Rect.unit (s := S512x1408) ![256 * (k / 4 % 2), 384 * (k % 4 % 3)] S256x384.size (inb_wide (k / 4) (k % 4)), k1_pay2 (rowsOf arg2 harg2 x1 (k % 4)) (halfOf arg1 harg1 arg6 arg7 x0 (k / 4))⟩ from if_neg h]
    intro x
    rw [eq_ix2 (n0 := 256) (n1 := 384) x]
    have e := unit_emb2 (n0 := 512) (n1 := 1408) _ _ (inb_wide (k / 4) (k % 4)) (x 0) (x 1) (by have : (x 0).val < 256 := (x 0).isLt; omega) (by have : (x 1).val < 384 := (x 1).isLt; omega)
    refine Eq.trans ?_ (congrArg (dxOf x0 x1) e.symm)
    refine (dx2_apply _ _ _ _).trans (Finset.sum_congr rfl fun c _ => ?_)
    exact (mul_comm _ _).trans (congrArg₂ (· * ·) (halfOf_apply arg1 harg1 arg6 arg7 x0 (k / 4) (x 0) c) (rowsOf_apply arg2 harg2 x1 (k % 4) (x 1) c))

theorem dx_canon (r : Fin 512) (d : Fin 1408) :
    View.canon (stack (dxPiece (halfOf arg1 harg1 arg6 arg7 x0) (rowsOf arg2 harg2 x1) (endOf arg2 harg2 x1)) 8) (ix2 r d) = dxOf x0 x1 (ix2 r d) := by
  have hr := r.isLt
  have hd := d.isLt
  refine View.canon_apply_of_pieces (e := .bf16) (dxOf x0 x1) _ ?_ _ ?_
  · intro P hP x
    obtain ⟨k, hk, rfl⟩ := (mem_stack _ _ _).mp hP
    exact dxPiece_apply arg1 harg1 arg2 harg2 arg6 arg7 x0 x1 k x
  · refine ⟨_, (mem_stack _ _ _).mpr ⟨4 * (r.val / 256) + d.val / 384, by omega, rfl⟩, ?_⟩
    unfold dxPiece
    split_ifs with h
    · refine (Rect.mem_set_unit (inb := inb_last _)).mpr fun a => ?_
      fin_cases a
      · constructor
        · change 256 * ((4 * (r.val / 256) + d.val / 384) / 4 % 2) ≤ r.val; omega
        · change r.val < 256 * ((4 * (r.val / 256) + d.val / 384) / 4 % 2) + 256; omega
      · constructor
        · change 1152 ≤ d.val; omega
        · change d.val < 1152 + 256; omega
    · refine (Rect.mem_set_unit (inb := inb_wide _ _)).mpr fun a => ?_
      fin_cases a
      · constructor
        · change 256 * ((4 * (r.val / 256) + d.val / 384) / 4 % 2) ≤ r.val; omega
        · change r.val < 256 * ((4 * (r.val / 256) + d.val / 384) / 4 % 2) + 256; omega
      · constructor
        · change 384 * ((4 * (r.val / 256) + d.val / 384) % 4 % 3) ≤ d.val; omega
        · change d.val < 384 * ((4 * (r.val / 256) + d.val / 384) % 4 % 3) + 384; omega

end Run

/-! ## The three results of a block -/

section Out
variable (c : Dev nD) (i : grid1.Coords) (arg1 : Memref sig .tc .vmem S512x2304 .bf16) (harg1 : arg1.IsWhole) (arg2 : Memref sig .tc .vmem S1408x2304 .bf16) (harg2 : arg2.IsWhole) (arg3 : Memref sig .tc .vmem S512x1408 .bf16) (harg3 : arg3.IsWhole) (arg4 : Memref sig .tc .vmem S512x2304 .fp8e4m3) (harg4 : arg4.IsWhole) (arg5 : Memref sig .tc .vmem S512x72 .f32) (harg5 : arg5.IsWhole) (arg6 : Memref sig .tc .vmem S2304x2x128 .bf16) (harg6 : arg6.IsWhole) (arg7 : Memref sig .tc .vmem S512x2304 .bf16) (harg7 : arg7.IsWhole)
    (x0 : Vec Ideal S512x2304 .bf16) (x1 : Vec Ideal S1408x2304 .bf16)

theorem out_dx (r : Fin 512) (d : Fin 1408) : out1_A_2 c i arg1 harg1 arg2 harg2 arg3 harg3 arg4 harg4 arg5 harg5 arg6 harg6 arg7 harg7 x0 x1 (ix2 r d) =
    ∑ c : Fin 2304, dyDeq (fun c => x0 (ix2 r c)) c * x1 (ix2 d c) := by
  unfold out1_A_2
  rw [View.read_writes_junk_eq_canon, dx_eq]
  exact dx_canon arg1 harg1 arg2 harg2 arg6 arg7 x0 x1 r d

theorem out_codes (r : Fin 512) (k : Fin 2304) : out1_A_3 c i arg1 harg1 arg2 harg2 arg3 harg3 arg4 harg4 arg5 harg5 arg6 harg6 arg7 harg7 x0 x1 (ix2 r k) =
    dyCode (fun c => x0 (ix2 r c)) k := by
  unfold out1_A_3
  rw [View.read_writes_junk_eq_canon, codes_eq]
  exact codes_canon arg1 harg1 arg6 x0 r k

theorem out_scales (r : Fin 512) (g : Fin 72) : out1_A_4 c i arg1 harg1 arg2 harg2 arg3 harg3 arg4 harg4 arg5 harg5 arg6 harg6 arg7 harg7 x0 x1 (ix2 r g) =
    dyScale (fun c => x0 (ix2 r c)) g := by
  unfold out1_A_4
  rw [View.read_writes_junk_eq_canon, scales_eq, View.canon_unit_zero, ← mScale_value arg1 harg1 arg6]
  · generalize mScales (topOf arg1 harg1 arg6 x0) = s
    pointwise
  · funext a
    fin_cases a <;> rfl

end Out

end Cert.Proof
-- ==== Proof.WValue.lean ====
/-
  What the W quantiser stores, at an index: codes, scales and the values the codes stand for.
-/
module

public import proofs.«01_k».proof.Proof.WTile
public import proofs.«01_k».proof.Proof.MValue

@[expose] public section

set_option maxRecDepth 16384

noncomputable section

namespace Cert.Proof

open Idealize.ShloMosaic Idealize.ShloMosaic.TcCoe Cert.KernelIdeal Cert.KernelIdeal.Gen

/-! ## The scales -/

/-- The magnitudes of W, a row block at a time. -/
def wMags (x : Vec Ideal S1408x2304 .bf16) : FVec Ideal S44x32x2304 .f32 :=
  shapeCast S44x32x2304 (absf (extf .f32 x bitsLt_bf16_f32)) shapeCasts_S1408x2304_S44x32x2304

/-- The columns of a W block, each reduced to its largest magnitude over the block's rows. -/
def wColumns (x : Vec Ideal S1408x2304 .bf16) : FVec Ideal S44x2304 .f32 :=
  multiReduction .maximumf [1] S44x2304 (wMags x) 0xFF800000#32
      reduces_S44x32x2304_S44x2304 (.inl rfl) rfl

theorem wRowMax_apply (x : Vec Ideal S1408x2304 .bf16) (R : Fin 44) (c : Fin 2304) :
    wColumns x (ix2 R c) = Finset.univ.sup fun i : Fin 32 => mag (x (ix2 (row R i) c)) := by
  have h : ∀ i : Fin 32, wMags x (ix3 R i c) = mag (x (ix2 (row R i) c)) := by
    intro i
    unfold wMags
    pointwise
    rfl
  unfold wColumns
  obtain ⟨w, hw⟩ : ∃ w, wMags x = w := ⟨_, rfl⟩
  rw [hw] at h ⊢
  clear hw
  pointwise
  rw [bot_word]
  exact Finset.sup_congr rfl fun i _ => h i

/-- The columns with four rows of zeros below them. -/
def wTall (v : FVec Ideal S44x2304 .f32) : FVec Ideal S48x2304 .f32 :=
  concatenate S48x2304 0 [⟨S44x2304, v⟩, ⟨S4x2304, broadcast S4x2304 (Scalar.ofBits .f32 0x00000000#32)⟩] concatenates_S44x2304_S4x2304_S48x2304_d0

/-- The largest entry of each group of 32 columns, times the constant. -/
def wTops (v : FVec Ideal S48x2304 .f32) : FVec Ideal S48x72 .f32 :=
  mulf (transpose S48x72 [1, 0] (multiReduction .maximumf [1] S72x48 (shapeCast S72x32x48 (transpose S2304x48 [1, 0] v transposes_S48x2304_p1_0_S2304x48)
    shapeCasts_S2304x48_S72x32x48) 0xFF800000#32 reduces_S72x32x48_S72x48 (.inl rfl) rfl) transposes_S72x48_p1_0_S48x72) (broadcast S48x72 (Scalar.ofBits .f32 0x3B124925#32))

theorem wTall_apply (v : FVec Ideal S44x2304 .f32) (R : Fin 44) (c : Fin 2304) : wTall v (ix2 (⟨R.val, by omega⟩ : Fin 48) c) = v (ix2 R c) := by
  unfold wTall
  pointwise

theorem wGroup_apply (v : FVec Ideal S48x2304 .f32) (g : Fin 72) (j : Fin 32) (r : Fin 48) :
    shapeCast S72x32x48 (transpose S2304x48 [1, 0] v transposes_S48x2304_p1_0_S2304x48) shapeCasts_S2304x48_S72x32x48 (ix3 g j r) = v (ix2 r (col g j)) := by
  pointwise
  rfl

theorem wTops_apply (v : FVec Ideal S48x2304 .f32) (r : Fin 48) (g : Fin 72) :
    wTops v (ix2 r g) = (Finset.univ.sup fun j : Fin 32 => v (ix2 r (col g j))) * Ideal.ofBits .f32 0x3B124925#32 := by
  have h := fun j => wGroup_apply v g j r
  unfold wTops
  obtain ⟨w, hw⟩ : ∃ w, shapeCast S72x32x48 (transpose S2304x48 [1, 0] v transposes_S48x2304_p1_0_S2304x48) shapeCasts_S2304x48_S72x32x48 = w := ⟨_, rfl⟩
  rw [hw] at h ⊢
  clear hw
  pointwise
  rw [bot_word]
  exact congrArg (· * _) (Finset.sup_congr rfl fun j _ => h j)

theorem wTop_apply (x : Vec Ideal S1408x2304 .bf16) (R : Fin 44) (g : Fin 72) :
    k0_pay2 x (ix2 (⟨R.val, by omega⟩ : Fin 48) g) = wTop (fun d c => x (ix2 d c)) R g * Ideal.ofBits .f32 0x3B124925#32 := by
  refine (wTops_apply (wTall (wColumns x)) _ g).trans (congrArg (· * _) ?_)
  simp only [wTall_apply, wRowMax_apply]
  unfold wTop
  refine (Finset.sup_comm _ _ _).trans ?_
  rw [← Finset.univ_product_univ, Finset.sup_product_left]

theorem wScales_apply (x : Vec Ideal S1408x2304 .bf16) (r : Fin 48) (g : Fin 72) : wScales x (ix2 r g) = scaleK (k0_pay2 x (ix2 r g)) := by
  sl_kernel_rfl

theorem wPadded_apply (x : Vec Ideal S1408x2304 .bf16) (R : Fin 44) (g : Fin 72) :
    wPadded x (ix2 (⟨R.val, by omega⟩ : Fin 48) (⟨g.val, by omega⟩ : Fin 128)) = wScale (fun d c => x (ix2 d c)) R g := by
  have h : wPadded x (ix2 (⟨R.val, by omega⟩ : Fin 48) (⟨g.val, by omega⟩ : Fin 128)) = wScales x (ix2 (⟨R.val, by omega⟩ : Fin 48) g) := by
    unfold wPadded
    generalize wScales x = s
    pointwise
  rw [h, wScales_apply, wTop_apply]
  rfl

/-! ## The codes and the values they stand for -/

theorem wLane_group (r : Fin 48) (l : Fin 128) : k0_pay8 (iota .tc S48x128 32 [1] iota_S48x128_d1_w32) 32#32 (ix2 r l) = BitVec.ofNat 32 (l.val / 32) := by
  have e : iota .tc S48x128 32 [1] iota_S48x128_d1_w32 (ix2 r l) = BitVec.ofNat 32 l.val := by
    pointwise
  generalize iota .tc S48x128 32 [1] iota_S48x128_d1_w32 = v at e ⊢
  pointwise [k0_pay8]
  simp only [e]
  exact lane_div l

theorem wLaneScale_apply (s : FVec Ideal S48x128 .f32) (t : Fin 18) (r : Fin 48) (l : Fin 128) :
    wLaneScale s t.val (ix2 r l) = s (ix2 r ⟨4 * t.val + l.val / 32, by omega⟩) := by
  have e := wLane_group r l
  generalize hw : k0_pay8 (iota .tc S48x128 32 [1] iota_S48x128_d1_w32) 32#32 = w at e
  unfold wLaneScale
  rw [hw]
  pointwise
  simp only [e]
  exact congrArg (fun a : Fin 128 => s (ix2 r a)) (Fin.ext (lane_index t ⟨l.val / 32, by omega⟩))

theorem wRow_apply (s : FVec Ideal S48x128 .f32) (r : ℕ) (l : Fin 128) : wRow s r (ix2 (0 : Fin 1) l) = s (ix2 (⟨r % 44, by omega⟩ : Fin 48) l) := by
  pointwise [wRow]

theorem wCodeBlock_apply (s : FVec Ideal S1x128 .f32) (x : Vec Ideal S32x128 .bf16) (i : Fin 32) (l : Fin 128) :
    wCodeBlock s x (ix2 i l) = clipF (x (ix2 i l) * Ideal.div 1 (s (ix2 (0 : Fin 1) l))) := by
  rw [← one_word]
  pointwise [wCodeBlock]
  rfl

theorem wDeqBlock_apply (s : FVec Ideal S1x128 .f32) (x : Vec Ideal S32x128 .bf16) (i : Fin 32) (l : Fin 128) :
    wDeqBlock s x (ix2 i l) = wCodeBlock s x (ix2 i l) * s (ix2 (0 : Fin 1) l) := by
  unfold wDeqBlock
  generalize wCodeBlock s x = y
  pointwise

/-! ## The stores -/

section Run
variable (arg0 : Memref sig .tc .vmem S1408x2304 .bf16) (harg0 : arg0.IsWhole) (x0 : Vec Ideal S1408x2304 .bf16)

theorem wAllOf_eq : wAllOf arg0 harg0 x0 = x0 := by
  funext x
  rw [eq_ix2 x]
  refine (harg0.readAt_unread x0 _ _).trans (congrArg x0 ?_)
  refine (unit_emb2 (n0 := 1408) (n1 := 2304) 0 0 inb_S1408x2304_S1408x2304_0_0 (x 0) (x 1) (by have : (x 0).val < 1408 := (x 0).isLt; omega)
    (by have : (x 1).val < 2304 := (x 1).isLt; omega)).trans ?_
  congr 1
  · exact Fin.ext (Nat.zero_add _)
  · exact Fin.ext (Nat.zero_add _)

theorem wBlockOf_apply (k : ℕ) (i : Fin 32) (l : Fin 128) :
    wBlockOf arg0 harg0 x0 k (ix2 i l) = x0 (ix2 (⟨32 * (k % 44) + i.val, by omega⟩ : Fin 1408) (⟨128 * (k / 44 % 18) + l.val, by omega⟩ : Fin 2304)) :=
  (harg0.readAt_unread x0 (wRect k).toLoadRect (ix2 i l)).trans
    (congrArg x0 (unit_emb2 (n0 := 1408) (n1 := 2304) _ _ (inb_block k) i l (by omega) (by omega)))

theorem wLane_value (k : ℕ) (hk : k < 792) (i : Fin 32) (l : Fin 128) :
    wRow (wLaneScale (wPadded (wAllOf arg0 harg0 x0)) (k / 44)) k (ix2 (0 : Fin 1) l) =
      wScale (fun d c => x0 (ix2 d c)) (blk (⟨32 * (k % 44) + i.val, by omega⟩ : Fin 1408)) (grp (⟨128 * (k / 44 % 18) + l.val, by omega⟩ : Fin 2304)) := by
  have hi := i.isLt
  have hl := l.isLt
  rw [wRow_apply, wAllOf_eq, ← wPadded_apply]
  refine (wLaneScale_apply _ ⟨k / 44, by omega⟩ _ l).trans (at_ix2 _ ?_ ?_)
  · change k % 44 = (32 * (k % 44) + i.val) / 32
    omega
  · change 4 * (k / 44) + l.val / 32 = (128 * (k / 44 % 18) + l.val) / 32
    omega

theorem wCode_value (k : ℕ) (hk : k < 792) (i : Fin 32) (l : Fin 128) :
    wCodeBlock (wRow (wLaneScale (wPadded (wAllOf arg0 harg0 x0)) (k / 44)) k) (wBlockOf arg0 harg0 x0 k) (ix2 i l) =
      wCode (fun d c => x0 (ix2 d c)) (⟨32 * (k % 44) + i.val, by omega⟩ : Fin 1408) (⟨128 * (k / 44 % 18) + l.val, by omega⟩ : Fin 2304) := by
  rw [wCodeBlock_apply, wBlockOf_apply, wLane_value arg0 harg0 x0 k hk i]
  rfl

theorem wDeq_value (k : ℕ) (hk : k < 792) (i : Fin 32) (l : Fin 128) :
    wDeqBlock (wRow (wLaneScale (wPadded (wAllOf arg0 harg0 x0)) (k / 44)) k) (wBlockOf arg0 harg0 x0 k) (ix2 i l) =
      wDeq (fun d c => x0 (ix2 d c)) (⟨32 * (k % 44) + i.val, by omega⟩ : Fin 1408) (⟨128 * (k / 44 % 18) + l.val, by omega⟩ : Fin 2304) := by
  rw [wDeqBlock_apply, wCode_value arg0 harg0 x0 k hk, wLane_value arg0 harg0 x0 k hk i]
  rfl

theorem mem_block (d : Fin 1408) (c : Fin 2304) : ix2 d c ∈ (wRect (44 * (c.val / 128) + d.val / 32)).set := by
  have hd := d.isLt
  have hc := c.isLt
  refine Rect.mem_set_unit.mpr fun a => ?_
  fin_cases a
  · constructor
    · change 32 * ((44 * (c.val / 128) + d.val / 32) % 44) ≤ d.val; omega
    · change d.val < 32 * ((44 * (c.val / 128) + d.val / 32) % 44) + 32; omega
  · constructor
    · change 128 * ((44 * (c.val / 128) + d.val / 32) / 44 % 18) ≤ c.val; omega
    · change c.val < 128 * ((44 * (c.val / 128) + d.val / 32) / 44 % 18) + 128; omega

/-- Blocks of W that hold at every index what `f` says there hold together what `f` says. -/
theorem blocks_canon {e : EltTy} (f : Fin 1408 → Fin 2304 → Elt Ideal e) (b : ℕ → Vec Ideal S32x128 e)
    (h : ∀ k < 792, ∀ (i : Fin 32) (l : Fin 128), b k (ix2 i l) =
      f (⟨32 * (k % 44) + i.val, by omega⟩ : Fin 1408) (⟨128 * (k / 44 % 18) + l.val, by omega⟩ : Fin 2304)) (d : Fin 1408) (c : Fin 2304) :
    View.canon (stack (fun k => (⟨wRect k, b k⟩ : View.Piece (Elt Ideal) S1408x2304 e)) 792) (ix2 d c) = f d c := by
  refine View.canon_apply_of_pieces (Val := Elt Ideal) (e := e) (fun y : S1408x2304.Idx => f (y 0) (y 1)) _ ?_ _
    ⟨⟨wRect (44 * (c.val / 128) + d.val / 32), b _⟩, (mem_stack _ _ _).mpr ⟨_, by omega, rfl⟩, mem_block d c⟩
  intro P hP x
  obtain ⟨k, hk, rfl⟩ := (mem_stack _ _ _).mp hP
  rw [eq_ix2 (n0 := 32) (n1 := 128) x]
  refine (h k hk _ _).trans ?_
  exact (congrArg (fun y : S1408x2304.Idx => f (y 0) (y 1)) (unit_emb2 (n0 := 1408) (n1 := 2304) _ _ (inb_block k) (x 0) (x 1)
    (by have : (x 0).val < 32 := (x 0).isLt; omega) (by have : (x 1).val < 128 := (x 1).isLt; omega))).symm

end Run

/-! ## The three results of the body -/

section Out
variable (c : Dev nD) (arg0 : Memref sig .tc .vmem S1408x2304 .bf16) (harg0 : arg0.IsWhole) (arg1 : Memref sig .tc .vmem S1408x2304 .fp8e4m3) (harg1 : arg1.IsWhole) (arg2 : Memref sig .tc .vmem S44x72 .f32) (harg2 : arg2.IsWhole) (arg3 : Memref sig .tc .vmem S1408x2304 .bf16) (harg3 : arg3.IsWhole)
    (x0 : Vec Ideal S1408x2304 .bf16)

theorem out_wCodes (d : Fin 1408) (k : Fin 2304) : Own.out0_1 c arg0 harg0 arg1 harg1 arg2 harg2 arg3 harg3 x0 (ix2 d k) = wCode (fun d c => x0 (ix2 d c)) d k := by
  unfold Own.out0_1
  rw [View.read_writes_junk_eq_canon, wCodes_eq]
  exact blocks_canon (e := .fp8e4m3) (wCode fun d c => x0 (ix2 d c)) _ (wCode_value arg0 harg0 x0) d k

theorem out_wDeqs (d : Fin 1408) (k : Fin 2304) : Own.out0_3 c arg0 harg0 arg1 harg1 arg2 harg2 arg3 harg3 x0 (ix2 d k) = wDeq (fun d c => x0 (ix2 d c)) d k := by
  unfold Own.out0_3
  rw [View.read_writes_junk_eq_canon, wDeqs_eq]
  exact blocks_canon (e := .bf16) (wDeq fun d c => x0 (ix2 d c)) _ (wDeq_value arg0 harg0 x0) d k

theorem out_wScales (R : Fin 44) (g : Fin 72) : Own.out0_2 c arg0 harg0 arg1 harg1 arg2 harg2 arg3 harg3 x0 (ix2 R g) = wScale (fun d c => x0 (ix2 d c)) R g := by
  unfold Own.out0_2
  rw [View.read_writes_junk_eq_canon, wScales_eq, View.canon_unit_zero, wAllOf_eq]
  · refine Eq.trans ?_ ((wScales_apply x0 (⟨R.val, by omega⟩ : Fin 48) g).trans (congrArg scaleK (wTop_apply x0 R g)))
    generalize wScales x0 = s
    pointwise
  · funext a
    fin_cases a <;> rfl

end Out

end Cert.Proof
-- ==== Proof.KArrays.lean ====
/-
  The result arrays of the kernel, as functions of its argument arrays.
-/
module

public import proofs.«01_k».proof.Proof.KernelIdeal.Frame
public import proofs.«01_k».proof.Proof.WValue
public import Idealize.ShloMosaic.Lib.Pipeline.ValueKit.Geometry

@[expose] public section

set_option maxRecDepth 16384

noncomputable section

namespace Cert.Proof.Ker

open Idealize.ShloMosaic Idealize.ShloMosaic.TcCoe Idealize.SL.Sem Cert.KernelIdeal Cert.KernelIdeal.Gen Cert.KernelIdeal.Own

variable (m : (ℓ : Loc nD τ sig) → Buf (Elt Ideal) ℓ) (ρ : Dev nD → PrngReg) (c : Dev nD)

/-- The rows of dy: the argument's two leading axes joined. -/
def rows (r : Fin 24576) (k : Fin 2304) : EReal := shapeCast S24576x2304 (m ((c : Thread nD τ).loc main_arg0)) shapeCasts_S3x8192x2304_S24576x2304 (ix2 r k)

/-- W by its two coordinates. -/
def weights (d : Fin 1408) (k : Fin 2304) : EReal := m ((c : Thread nD τ).loc main_arg1) (ix2 d k)

/-! ## The first region: one point, every window the whole array -/

theorem index0_0 : ∀ t : Fin cfg0.N, win0_0.index t (0 : Fin 2) = 0 ∧ win0_0.index t (1 : Fin 2) = 0 := (by decide +kernel : ∀ t : Fin grid0.N, _)

theorem block0_0 (t : Fin cfg0.N) (d : Fin 1408) (k : Fin 2304) : iblk0 (V0 m ρ) c 0 t (ix2 d k) = weights m c d k := by
  obtain ⟨e0, e1⟩ := index0_0 t
  unfold iblk0
  blk_simp
  refine congrArg (V0 m ρ c main_arg1) (funext fun a => Fin.ext ?_)
  match a with
  | ⟨0, _⟩ => show win0_0.index t (0 : Fin 2) * 1408 + 1 * d.val = d.val; omega
  | ⟨1, _⟩ => show win0_0.index t (1 : Fin 2) * 2304 + 1 * k.val = k.val; omega

theorem block0_0' (t : Fin cfg0.N) : (fun d k => iblk0 (V0 m ρ) c 0 t (ix2 d k)) = weights m c :=
  funext fun d => funext fun k => block0_0 m ρ c t d k

theorem array_wCodes : (dat0 (V0 m ρ) c).arrAt 1 cfg0.N = fun i => wCode (weights m c) (i 0) (i 1) := by
  refine (dat0 (V0 m ρ) c).arrAt_eq_of_after_last 1 t0_0 (by decide +kernel) _ fun j => ?_
  blk_simp
  rw [after0_1, eq_ix2 (n0 := 1408) (n1 := 2304) j]
  refine (out_wCodes c _ _ _ _ _ _ _ _ _ _ _).trans ?_
  rw [block0_0']
  rfl

theorem array_wScales : (dat0 (V0 m ρ) c).arrAt 2 cfg0.N = fun i => wScale (weights m c) (i 0) (i 1) := by
  refine (dat0 (V0 m ρ) c).arrAt_eq_of_after_last 2 t0_0 (by decide +kernel) _ fun j => ?_
  blk_simp
  rw [after0_2, eq_ix2 (n0 := 44) (n1 := 72) j]
  refine (out_wScales c _ _ _ _ _ _ _ _ _ _ _).trans ?_
  rw [block0_0']
  rfl

theorem array_wDeqs : (dat0 (V0 m ρ) c).arrAt 3 cfg0.N = fun i => wDeq (weights m c) (i 0) (i 1) := by
  refine (dat0 (V0 m ρ) c).arrAt_eq_of_after_last 3 t0_0 (by decide +kernel) _ fun j => ?_
  blk_simp
  rw [after0_3, eq_ix2 (n0 := 1408) (n1 := 2304) j]
  refine (out_wDeqs c _ _ _ _ _ _ _ _ _ _ _).trans ?_
  rw [block0_0']
  rfl

/-! ## The second region: 48 points of 512 rows -/

theorem entry_rows : V2 m ρ c main_v1 = shapeCast S24576x2304 (m ((c : Thread nD τ).loc main_arg0)) shapeCasts_S3x8192x2304_S24576x2304 := by
  show StableHlo.after hostOps1 (W1 m ρ c) (Proc.devRef .tc main_v1) = _
  rw [StableHlo.after_cons, StableHlo.after_nil, StableHlo.reshape_result, W1_of m ρ c main_arg0 (by decide)]
  rfl

theorem entry_wDeqs : V2 m ρ c main_v0_2 = fun i => wDeq (weights m c) (i 0) (i 1) :=
  (W2_of m ρ c main_v0_2 (by decide)).trans ((W1_arr m ρ c 3).trans (array_wDeqs m ρ c))

/-- Row `r` of the block at point `t`. -/
def rowAt (t : Fin cfg1.N) (r : Fin 512) : Fin 24576 := ⟨512 * t.val + r.val, by have h : t.val < 48 := t.isLt.trans_eq N_1; omega⟩

theorem index1_0 : ∀ t : Fin cfg1.N, win1_0.index t (0 : Fin 2) = t.val ∧ win1_0.index t (1 : Fin 2) = 0 := (by decide +kernel : ∀ t : Fin grid1.N, _)
theorem index1_1 : ∀ t : Fin cfg1.N, win1_1.index t (0 : Fin 2) = 0 ∧ win1_1.index t (1 : Fin 2) = 0 := (by decide +kernel : ∀ t : Fin grid1.N, _)
theorem index1_2 : ∀ t : Fin cfg1.N, win1_2.index t (0 : Fin 2) = t.val ∧ win1_2.index t (1 : Fin 2) = 0 := (by decide +kernel : ∀ t : Fin grid1.N, _)
theorem index1_3 : ∀ t : Fin cfg1.N, win1_3.index t (0 : Fin 2) = t.val ∧ win1_3.index t (1 : Fin 2) = 0 := (by decide +kernel : ∀ t : Fin grid1.N, _)
theorem index1_4 : ∀ t : Fin cfg1.N, win1_4.index t (0 : Fin 2) = t.val ∧ win1_4.index t (1 : Fin 2) = 0 := (by decide +kernel : ∀ t : Fin grid1.N, _)

theorem block1_0 (t : Fin cfg1.N) (r : Fin 512) (k : Fin 2304) : iblk1 (V2 m ρ) c 0 t (ix2 r k) = rows m c (rowAt t r) k := by
  obtain ⟨e0, e1⟩ := index1_0 t
  unfold iblk1
  blk_simp
  unfold rows
  rw [← entry_rows m ρ c]
  refine congrArg (V2 m ρ c main_v1) (funext fun a => Fin.ext ?_)
  match a with
  | ⟨0, _⟩ => show win1_0.index t (0 : Fin 2) * 512 + 1 * r.val = 512 * t.val + r.val; omega
  | ⟨1, _⟩ => show win1_0.index t (1 : Fin 2) * 2304 + 1 * k.val = k.val; omega

theorem block1_1 (t : Fin cfg1.N) (d : Fin 1408) (k : Fin 2304) : iblk1 (V2 m ρ) c 1 t (ix2 d k) = wDeq (weights m c) d k := by
  obtain ⟨e0, e1⟩ := index1_1 t
  unfold iblk1
  blk_simp
  refine Eq.trans (congrArg (V2 m ρ c main_v0_2) (?_ : _ = ix2 d k)) (congrFun (entry_wDeqs m ρ c) (ix2 d k))
  refine funext fun a => Fin.ext ?_
  match a with
  | ⟨0, _⟩ => show win1_1.index t (0 : Fin 2) * 1408 + 1 * d.val = d.val; omega
  | ⟨1, _⟩ => show win1_1.index t (1 : Fin 2) * 2304 + 1 * k.val = k.val; omega

theorem place1_2 (t : Fin cfg1.N) (r : Fin 512) (d : Fin 1408) : (win1_2.blk t).view.emb (ix2 r d) = ix2 (rowAt t r) d := by
  obtain ⟨e0, e1⟩ := index1_2 t
  refine funext fun a => Fin.ext ?_
  match a with
  | ⟨0, _⟩ => show win1_2.index t (0 : Fin 2) * 512 + 1 * r.val = 512 * t.val + r.val; omega
  | ⟨1, _⟩ => show win1_2.index t (1 : Fin 2) * 1408 + 1 * d.val = d.val; omega

theorem place1_3 (t : Fin cfg1.N) (r : Fin 512) (k : Fin 2304) : (win1_3.blk t).view.emb (ix2 r k) = ix2 (rowAt t r) k := by
  obtain ⟨e0, e1⟩ := index1_3 t
  refine funext fun a => Fin.ext ?_
  match a with
  | ⟨0, _⟩ => show win1_3.index t (0 : Fin 2) * 512 + 1 * r.val = 512 * t.val + r.val; omega
  | ⟨1, _⟩ => show win1_3.index t (1 : Fin 2) * 2304 + 1 * k.val = k.val; omega

theorem place1_4 (t : Fin cfg1.N) (r : Fin 512) (g : Fin 72) : (win1_4.blk t).view.emb (ix2 r g) = ix2 (rowAt t r) g := by
  obtain ⟨e0, e1⟩ := index1_4 t
  refine funext fun a => Fin.ext ?_
  match a with
  | ⟨0, _⟩ => show win1_4.index t (0 : Fin 2) * 512 + 1 * r.val = 512 * t.val + r.val; omega
  | ⟨1, _⟩ => show win1_4.index t (1 : Fin 2) * 72 + 1 * g.val = g.val; omega

/-- What a point's body leaves in the three results' buffers, at the point's own blocks. -/
theorem point_dx (t : Fin cfg1.N) (r : Fin 512) (d : Fin 1408) : (outsAt1 (V2 m ρ) c t).1 (ix2 r d) = dxAt (rows m c (rowAt t r)) (weights m c) d := by
  unfold outsAt1
  dsimp only
  rw [out_dx]
  rw [funext (block1_0 m ρ c t r)]
  exact Finset.sum_congr rfl fun k _ => congrArg (_ * ·) (block1_1 m ρ c t d k)

theorem point_codes (t : Fin cfg1.N) (r : Fin 512) (k : Fin 2304) : (outsAt1 (V2 m ρ) c t).2.1 (ix2 r k) = dyCode (rows m c (rowAt t r)) k := by
  unfold outsAt1
  dsimp only
  rw [out_codes]
  rw [funext (block1_0 m ρ c t r)]

theorem point_scales (t : Fin cfg1.N) (r : Fin 512) (g : Fin 72) : (outsAt1 (V2 m ρ) c t).2.2 (ix2 r g) = dyScale (rows m c (rowAt t r)) g := by
  unfold outsAt1
  dsimp only
  rw [out_scales]
  rw [funext (block1_0 m ρ c t r)]

theorem cover_dx : (cfg1.win 2).Covers := by decide +kernel

/-- The array a result ends as. -/
def final_dx : Vec Ideal S24576x1408 .bf16 := fun i => dxAt (rows m c (i 0)) (weights m c) (i 1)

theorem block_dx (t : Fin cfg1.N) (r : Fin 512) (k : Fin 1408) :
    (outsAt1 (V2 m ρ) c t).1 (ix2 r k) = final_dx m c ((win1_2.blk t).view.emb (ix2 r k)) := by
  rw [place1_2]
  exact point_dx m ρ c t r k

theorem array_dx : (dat1 (V2 m ρ) c).arrAt 2 cfg1.N = final_dx m c := by
  refine (dat1 (V2 m ρ) c).arrAt_eq_of_covers 2 _ cover_dx fun t _ y => ?_
  blk_simp
  rw [after1_2]
  rw [eq_ix2 (n0 := 512) (n1 := 1408) y]
  exact block_dx m ρ c t (y 0) (y 1)

theorem cover_codes : (cfg1.win 3).Covers := by decide +kernel

/-- The array a result ends as. -/
def final_codes : Vec Ideal S24576x2304 .fp8e4m3 := fun i => dyCode (rows m c (i 0)) (i 1)

theorem block_codes (t : Fin cfg1.N) (r : Fin 512) (k : Fin 2304) :
    (outsAt1 (V2 m ρ) c t).2.1 (ix2 r k) = final_codes m c ((win1_3.blk t).view.emb (ix2 r k)) := by
  rw [place1_3]
  exact point_codes m ρ c t r k

theorem array_codes : (dat1 (V2 m ρ) c).arrAt 3 cfg1.N = final_codes m c := by
  refine (dat1 (V2 m ρ) c).arrAt_eq_of_covers 3 _ cover_codes fun t _ y => ?_
  blk_simp
  rw [after1_3]
  rw [eq_ix2 (n0 := 512) (n1 := 2304) y]
  exact block_codes m ρ c t (y 0) (y 1)

theorem cover_scales : (cfg1.win 4).Covers := by decide +kernel

/-- The array a result ends as. -/
def final_scales : Vec Ideal S24576x72 .f32 := fun i => dyScale (rows m c (i 0)) (i 1)

theorem block_scales (t : Fin cfg1.N) (r : Fin 512) (k : Fin 72) :
    (outsAt1 (V2 m ρ) c t).2.2 (ix2 r k) = final_scales m c ((win1_4.blk t).view.emb (ix2 r k)) := by
  rw [place1_4]
  exact point_scales m ρ c t r k

theorem array_scales : (dat1 (V2 m ρ) c).arrAt 4 cfg1.N = final_scales m c := by
  refine (dat1 (V2 m ρ) c).arrAt_eq_of_covers 4 _ cover_scales fun t _ y => ?_
  blk_simp
  rw [after1_4]
  rw [eq_ix2 (n0 := 512) (n1 := 72) y]
  exact block_scales m ρ c t (y 0) (y 1)

/-! ## The run -/

/-- Every execution ends with the five results at these functions of the arguments, and the arguments as they were. -/
theorem run : θ_run defs (onTc (τ := τ) (main (F := Ideal))) ⟨m, fun _ => 0, ρ⟩ fun r => ∀ c : Dev nD,
      r.2.mem ((c.tc : Thread nD τ).loc main_v2_0) = (fun i => dxAt (rows m c (i 0)) (weights m c) (i 1))
      ∧ r.2.mem ((c.tc : Thread nD τ).loc main_v2_1) = (fun i => dyCode (rows m c (i 0)) (i 1))
      ∧ r.2.mem ((c.tc : Thread nD τ).loc main_v2_2) = (fun i => dyScale (rows m c (i 0)) (i 1))
      ∧ r.2.mem ((c.tc : Thread nD τ).loc main_v0_0) = (fun i => wCode (weights m c) (i 0) (i 1))
      ∧ r.2.mem ((c.tc : Thread nD τ).loc main_v0_1) = (fun i => wScale (weights m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨(h.1 c _ (mem_uc main_v2_0 (by decide))).trans ((W3_arr m ρ c 2).trans (array_dx m ρ c)),
     (h.1 c _ (mem_uc main_v2_1 (by decide))).trans ((W3_arr m ρ c 3).trans (array_codes m ρ c)),
     (h.1 c _ (mem_uc main_v2_2 (by decide))).trans ((W3_arr m ρ c 4).trans (array_scales m ρ c)),
     (h.1 c _ (mem_uc main_v0_0 (by decide))).trans ((W3_of m ρ c main_v0_0 (by decide)).trans
      ((W2_of m ρ c main_v0_0 (by decide)).trans ((W1_arr m ρ c 1).trans (array_wCodes m ρ c)))),
     (h.1 c _ (mem_uc main_v0_1 (by decide))).trans ((W3_of m ρ c main_v0_1 (by decide)).trans
      ((W2_of m ρ c main_v0_1 (by decide)).trans ((W1_arr m ρ c 2).trans (array_wScales m ρ c)))),
     (h.1 c _ (mem_uc main_arg0 (by decide))).trans (W3_main_arg0 m ρ c),
     (h.1 c _ (mem_uc main_arg1 (by decide))).trans (W3_main_arg1 m ρ c)⟩) (Own.run m ρ)

end Cert.Proof.Ker
-- ==== Proof.RValue.lean ====
/-
  What the reference computes, at an index.
-/
module

public import proofs.«01_k».proof.Proof.Gen.ReferenceIdeal.Frame
public import proofs.«01_k».proof.Proof.Spec
public import Idealize.ShloMosaic.Lib.Pointwise

@[expose] public section

set_option maxRecDepth 16384

noncomputable section

namespace Cert.Proof.Ref

open Idealize.ShloMosaic Idealize.ShloMosaic.TcCoe Cert.ReferenceIdeal Cert.ReferenceIdeal.Gen

/-- The least power of two above `x`, as an index of the reference's array of powers reads it. -/
theorem least_power (x : EReal) :
    Scalar.select (IntOp.ori (BitVec.ofBool (decide (x < Ideal.ofBits .f32 0x00800000#32))) (BitVec.ofBool (decide (x = Ideal.ofBits .f32 0x7F800000#32))))
      (1 : EReal)
      (Finset.fold min (Ideal.ofBits .f32 0x7F800000#32)
        (fun k : Fin 253 =>
          if x < FloatOps.exp2 (F := Ideal) (φ := .f32) (FloatOps.sitofp .f32 (IntOp.subi (BitVec.ofNat 32 k.val) 125#32)) then
            FloatOps.exp2 (F := Ideal) (φ := .f32) (FloatOps.sitofp .f32 (IntOp.subi (BitVec.ofNat 32 k.val) 125#32))
          else Ideal.ofBits .f32 0x7F800000#32) Finset.univ) = scaleR x := by
  unfold scaleR
  rw [one_word]
  have e : ∀ y : EReal, (if x < y then y else Ideal.ofBits .f32 0x7F800000#32) = Scalar.select (Ideal.cmp .ogt y x) y (Ideal.ofBits .f32 0x7F800000#32) := by
    intro y
    by_cases h : x < y <;> simp [Ideal.cmp, Scalar.select, h]
  simp only [e]
  rfl

/-! ## dy -/

theorem pay3_apply (v : Vec Ideal S24576x2304 .bf16) (r : Fin 24576) (g : Fin 72) (j : Fin 32) : k0_pay3 v (ix3 r g j) = v (ix2 r (col g j)) := by
  pointwise [k0_pay3]
  rfl

theorem top_apply (v : Vec Ideal S24576x2304 .bf16) (r : Fin 24576) (g : Fin 72) :
    multiReduction .maximumf [2] S24576x72 (absf (k0_pay3 v)) 0xFF80#16 reduces_S24576x72x32_S24576x72 (.inr rfl) rfl (ix2 r g) =
      dyTop (fun c => v (ix2 r c)) g := by
  have h : ∀ j, absf (k0_pay3 v) (ix3 r g j) = mag (v (ix2 r (col g j))) := fun j => congrArg mag (pay3_apply v r g j)
  generalize absf (k0_pay3 v) = w at h
  pointwise
  rw [bot_word16]
  exact Finset.sup_congr rfl fun j _ => h j

theorem scale_apply (v : Vec Ideal S24576x2304 .bf16) (r : Fin 24576) (g : Fin 72) : k0_pay4 v (ix2 r g) = dyScale (fun c => v (ix2 r c)) g := by
  have h := top_apply v r g
  obtain ⟨w, hw⟩ : ∃ w, multiReduction .maximumf [2] S24576x72 (absf (k0_pay3 v)) 0xFF80#16 reduces_S24576x72x32_S24576x72 (.inr rfl) rfl = w := ⟨_, rfl⟩
  unfold k0_pay4 dyScale scaleOf
  rw [scaleK_eq_scaleR, ← h, hw]
  clear h hw
  pointwise
  exact least_power _

theorem pay5_apply (v : Vec Ideal S24576x2304 .bf16) (r : Fin 24576) (g : Fin 72) (j : Fin 32) :
    k0_pay5 v (ix3 r g j) = clipB (v (ix2 r (col g j)) * Ideal.div 1 (dyScale (fun c => v (ix2 r c)) g)) := by
  have h : k0_pay5 v (ix3 r g j) = clipB (k0_pay3 v (ix3 r g j) * Ideal.div 1 (k0_pay4 v (ix2 r g))) := by
    obtain ⟨w, hw⟩ : ∃ w, k0_pay4 v = w := ⟨_, rfl⟩
    obtain ⟨x, hx⟩ : ∃ x, k0_pay3 v = x := ⟨_, rfl⟩
    unfold k0_pay5
    rw [hw, hx]
    clear hw hx
    pointwise
    rfl
  rw [h, scale_apply, pay3_apply]

/-- A column is column `c % 32` of its group. -/
theorem col_grp (c : Fin 2304) : col (grp c) ⟨c.val % 32, by omega⟩ = c := Fin.ext (show c.val / 32 * 32 + c.val % 32 = c.val by omega)
/-- A row of W is row `d % 32` of its block. -/
theorem row_blk (d : Fin 1408) : row (blk d) ⟨d.val % 32, by omega⟩ = d := Fin.ext (show d.val / 32 * 32 + d.val % 32 = d.val by omega)

theorem code_apply (v : Vec Ideal S24576x2304 .bf16) (r : Fin 24576) (c : Fin 2304) :
    k0_pay1 (k0_pay5 v) (ix2 r c) = dyCode (fun c => v (ix2 r c)) c := by
  have h := pay5_apply v r (grp c) ⟨c.val % 32, by omega⟩
  rw [col_grp] at h
  refine Eq.trans ?_ h
  generalize k0_pay5 v = w
  pointwise [k0_pay1]
  rfl

theorem deq_apply (v : Vec Ideal S24576x2304 .bf16) (r : Fin 24576) (c : Fin 2304) : k0_pay6 v (ix2 r c) = dyDeq (fun c => v (ix2 r c)) c := by
  have h := pay5_apply v r (grp c) ⟨c.val % 32, by omega⟩
  rw [col_grp] at h
  refine Eq.trans ?_ (congrArg₂ (· * ·) h (scale_apply v r (grp c)))
  unfold k0_pay6
  generalize k0_pay4 v = w
  generalize k0_pay5 v = x
  pointwise
  rfl

/-! ## W -/

theorem pay7_apply (v : Vec Ideal S1408x2304 .bf16) (R : Fin 44) (i : Fin 32) (g : Fin 72) (j : Fin 32) :
    k0_pay7 v (ix4 R i g j) = v (ix2 (row R i) (col g j)) := by
  pointwise [k0_pay7]
  rfl

theorem drop_ix4 (i : S44x32x72x32.Idx) (R : Fin 44) (g : Fin 72) : reduces_S44x32x72x32_S44x72.drop i = ix2 R g ↔ i 0 = R ∧ i 2 = g := by
  constructor
  · intro h
    exact ⟨congrFun h 0, congrFun h 1⟩
  · rintro ⟨rfl, rfl⟩
    funext a
    fin_cases a <;> rfl

theorem blockMax_apply (x : FVec Ideal S44x32x72x32 .f32) (R : Fin 44) (g : Fin 72) :
    multiReduction .maximumf [1, 3] S44x72 x 0xFF800000#32 reduces_S44x32x72x32_S44x72 (.inl rfl) rfl (ix2 R g) =
      Finset.univ.sup fun p : Fin 32 × Fin 32 => x (ix4 R p.1 g p.2) := by
  pointwise
  rw [bot_word, fold_max_eq_sup]
  apply le_antisymm
  · refine Finset.sup_le fun i hi => ?_
    obtain ⟨h0, h2⟩ := (drop_ix4 i R g).mp (Finset.mem_filter.mp hi).2
    have e : i = ix4 R (i 1) g (i 3) := by rw [← h0, ← h2]; exact eq_ix4 i
    rw [e]
    exact Finset.le_sup (f := fun p : Fin 32 × Fin 32 => x (ix4 R p.1 g p.2)) (Finset.mem_univ (i 1, i 3))
  · refine Finset.sup_le fun p _ => ?_
    exact Finset.le_sup (f := x) (Finset.mem_filter.mpr ⟨Finset.mem_univ _, (drop_ix4 _ R g).mpr ⟨rfl, rfl⟩⟩)

theorem wScale_apply (v : Vec Ideal S1408x2304 .bf16) (R : Fin 44) (g : Fin 72) : k0_pay8 v (ix2 R g) = wScale (fun d c => v (ix2 d c)) R g := by
  have h : multiReduction .maximumf [1, 3] S44x72 (absf (k0_pay7 v)) 0xFF800000#32 reduces_S44x32x72x32_S44x72 (.inl rfl) rfl (ix2 R g) =
      wTop (fun d c => v (ix2 d c)) R g :=
    (blockMax_apply _ R g).trans (Finset.sup_congr rfl fun p _ => congrArg mag (pay7_apply v R p.1 g p.2))
  obtain ⟨w, hw⟩ : ∃ w, multiReduction .maximumf [1, 3] S44x72 (absf (k0_pay7 v)) 0xFF800000#32 reduces_S44x32x72x32_S44x72 (.inl rfl) rfl = w := ⟨_, rfl⟩
  unfold k0_pay8 wScale scaleOf
  rw [scaleK_eq_scaleR, ← h, hw]
  clear h hw
  pointwise
  exact least_power _

theorem pay9_apply (v : Vec Ideal S1408x2304 .bf16) (R : Fin 44) (i : Fin 32) (g : Fin 72) (j : Fin 32) :
    k0_pay9 v (ix4 R i g j) = clipF (v (ix2 (row R i) (col g j)) * Ideal.div 1 (wScale (fun d c => v (ix2 d c)) R g)) := by
  have h : k0_pay9 v (ix4 R i g j) = clipF (k0_pay7 v (ix4 R i g j) * Ideal.div 1 (k0_pay8 v (ix2 R g))) := by
    obtain ⟨w, hw⟩ : ∃ w, k0_pay8 v = w := ⟨_, rfl⟩
    obtain ⟨x, hx⟩ : ∃ x, k0_pay7 v = x := ⟨_, rfl⟩
    unfold k0_pay9
    rw [hw, hx]
    clear hw hx
    pointwise
    rfl
  rw [h, wScale_apply, pay7_apply]

theorem pay9_wCode (v : Vec Ideal S1408x2304 .bf16) (d : Fin 1408) (c : Fin 2304) :
    k0_pay9 v (ix4 (blk d) ⟨d.val % 32, by omega⟩ (grp c) ⟨c.val % 32, by omega⟩) = wCode (fun d c => v (ix2 d c)) d c := by
  have h := pay9_apply v (blk d) ⟨d.val % 32, by omega⟩ (grp c) ⟨c.val % 32, by omega⟩
  rw [col_grp, row_blk] at h
  exact h

theorem wCode_apply (v : Vec Ideal S1408x2304 .bf16) (d : Fin 1408) (c : Fin 2304) :
    k0_pay2 (k0_pay9 v) (ix2 d c) = wCode (fun d c => v (ix2 d c)) d c := by
  refine Eq.trans ?_ (pay9_wCode v d c)
  generalize k0_pay9 v = w
  pointwise [k0_pay2]
  rfl

/-! ## dx -/

theorem dx_apply (y : Vec Ideal S24576x2304 .bf16) (v : Vec Ideal S1408x2304 .bf16) (r : Fin 24576) (d : Fin 1408) :
    k0_pay10 (k0_pay6 y) v (ix2 r d) = dxAt (fun c => y (ix2 r c)) (fun d c => v (ix2 d c)) d := by
  refine Eq.trans ?_ (Finset.sum_congr rfl fun c _ =>
    congrArg₂ (· * ·) (deq_apply y r c) (congrArg₂ (· * ·) (pay9_wCode v d c) (wScale_apply v (blk d) (grp c))))
  unfold k0_pay10
  generalize k0_pay8 v = w
  generalize k0_pay9 v = x
  generalize k0_pay6 y = z
  pointwise
  rfl

end Cert.Proof.Ref
-- ==== Proof.RArrays.lean ====
/-
  The result arrays of the reference, as functions of its argument arrays.
-/
module

public import proofs.«01_k».proof.Proof.RValue
public import Idealize.ShloMosaic.Lib.Pipeline.ValueKit.Geometry

@[expose] public section

set_option maxRecDepth 16384

noncomputable section

namespace Cert.Proof.Ref

open Idealize.ShloMosaic Idealize.ShloMosaic.TcCoe Idealize.SL.Sem Cert.ReferenceIdeal Cert.ReferenceIdeal.Gen

variable (m : (ℓ : Loc nD τ sig) → Buf (Elt Ideal) ℓ) (ρ : Dev nD → PrngReg) (c : Dev nD)

/-- The rows of dy: the argument's two leading axes joined. -/
def rows (r : Fin 24576) (k : Fin 2304) : EReal := shapeCast S24576x2304 (m ((c : Thread nD τ).loc main_arg0)) shapeCasts_S3x8192x2304_S24576x2304 (ix2 r k)

/-- W by its two coordinates. -/
def weights (d : Fin 1408) (k : Fin 2304) : EReal := m ((c : Thread nD τ).loc main_arg1) (ix2 d k)

theorem zeros2 : (![0, 0] : Fin 2 → ℕ) = fun _ => 0 := by
  funext a
  fin_cases a <;> rfl

theorem entry_rows : V m c main_v0 = shapeCast S24576x2304 (m ((c : Thread nD τ).loc main_arg0)) shapeCasts_S3x8192x2304_S24576x2304 := by
  show StableHlo.after hostOps0 (fun b => m (c, b)) (Proc.devRef .tc main_v0) = _
  rw [StableHlo.after_cons, StableHlo.after_nil, StableHlo.reshape_result]
  rfl

theorem index0_0 : ∀ t : Fin cfg0.N, win0_0.index t (0 : Fin 2) = 0 ∧ win0_0.index t (1 : Fin 2) = 0 := (by decide +kernel : ∀ t : Fin grid0.N, _)
theorem index0_1 : ∀ t : Fin cfg0.N, win0_1.index t (0 : Fin 2) = 0 ∧ win0_1.index t (1 : Fin 2) = 0 := (by decide +kernel : ∀ t : Fin grid0.N, _)

theorem block0_0 (t : Fin cfg0.N) (r : Fin 24576) (k : Fin 2304) : iblk m c 0 t (ix2 r k) = rows m c r k := by
  obtain ⟨e0, e1⟩ := index0_0 t
  unfold iblk
  blk_simp
  unfold rows
  rw [← entry_rows m c]
  refine congrArg (V m c main_v0) (funext fun a => Fin.ext ?_)
  match a with
  | ⟨0, _⟩ => show win0_0.index t (0 : Fin 2) * 24576 + 1 * r.val = r.val; omega
  | ⟨1, _⟩ => show win0_0.index t (1 : Fin 2) * 2304 + 1 * k.val = k.val; omega

theorem block0_1 (t : Fin cfg0.N) (d : Fin 1408) (k : Fin 2304) : iblk m c 1 t (ix2 d k) = weights m c d k := by
  obtain ⟨e0, e1⟩ := index0_1 t
  unfold iblk
  blk_simp
  unfold weights
  rw [← V_main_arg1 m c]
  refine congrArg (V m c main_arg1) (funext fun a => Fin.ext ?_)
  match a with
  | ⟨0, _⟩ => show win0_1.index t (0 : Fin 2) * 1408 + 1 * d.val = d.val; omega
  | ⟨1, _⟩ => show win0_1.index t (1 : Fin 2) * 2304 + 1 * k.val = k.val; omega

/-! ## What the body leaves in each result's buffer -/

section Out
variable (x0 : Vec Ideal S24576x2304 .bf16) (x1 : Vec Ideal S1408x2304 .bf16)

theorem out_dx (r : Fin 24576) (d : Fin 1408) : out0_2 x0 x1 (ix2 r d) = dxAt (fun k => x0 (ix2 r k)) (fun d k => x1 (ix2 d k)) d := by
  unfold out0_2
  rw [View.canon_unit_zero zeros2, View.ld_unit_zero zeros2, View.ld_unit_zero zeros2]
  exact dx_apply x0 x1 r d

theorem out_codes (r : Fin 24576) (k : Fin 2304) : out0_3 x0 x1 (ix2 r k) = dyCode (fun k => x0 (ix2 r k)) k := by
  unfold out0_3
  rw [View.canon_unit_zero zeros2, View.ld_unit_zero zeros2]
  exact code_apply x0 r k

theorem out_scales (r : Fin 24576) (g : Fin 72) : out0_4 x0 x1 (ix2 r g) = dyScale (fun k => x0 (ix2 r k)) g := by
  unfold out0_4
  rw [View.canon_unit_zero zeros2, View.ld_unit_zero zeros2]
  exact scale_apply x0 r g

theorem out_wCodes (d : Fin 1408) (k : Fin 2304) : out0_5 x0 x1 (ix2 d k) = wCode (fun d k => x1 (ix2 d k)) d k := by
  unfold out0_5
  rw [View.canon_unit_zero zeros2, View.ld_unit_zero zeros2]
  exact wCode_apply x1 d k

theorem out_wScales (R : Fin 44) (g : Fin 72) : out0_6 x0 x1 (ix2 R g) = wScale (fun d k => x1 (ix2 d k)) R g := by
  unfold out0_6
  rw [View.canon_unit_zero zeros2, View.ld_unit_zero zeros2]
  exact wScale_apply x1 R g

end Out

/-! ## The result arrays -/

theorem block0_1' (t : Fin cfg0.N) : (fun d k => iblk m c 1 t (ix2 d k)) = weights m c := funext fun d => funext fun k => block0_1 m c t d k

theorem point_dx (t : Fin cfg0.N) (r : Fin 24576) (k : Fin 1408) : out0_2 (iblk m c 0 t) (iblk m c 1 t) (ix2 r k) = dxAt (rows m c r) (weights m c) k := by
  refine (out_dx (iblk m c 0 t) (iblk m c 1 t) r k).trans ?_
  rw [funext (block0_0 m c t r), block0_1']

theorem array_dx : (dats m 0 c).arrAt 2 cfg0.N = fun i => dxAt (rows m c (i 0)) (weights m c) (i 1) := by
  refine (dats m 0 c).arrAt_eq_of_after_last 2 t0_0 (by decide +kernel) _ fun j => ?_
  blk_simp
  rw [after0_2, eq_ix2 (n0 := 24576) (n1 := 1408) j]
  exact point_dx m c t0_0 _ _

theorem point_codes (t : Fin cfg0.N) (r : Fin 24576) (k : Fin 2304) : out0_3 (iblk m c 0 t) (iblk m c 1 t) (ix2 r k) = dyCode (rows m c r) k := by
  refine (out_codes (iblk m c 0 t) (iblk m c 1 t) r k).trans ?_
  rw [funext (block0_0 m c t r)]

theorem array_codes : (dats m 0 c).arrAt 3 cfg0.N = fun i => dyCode (rows m c (i 0)) (i 1) := by
  refine (dats m 0 c).arrAt_eq_of_after_last 3 t0_0 (by decide +kernel) _ fun j => ?_
  blk_simp
  rw [after0_3, eq_ix2 (n0 := 24576) (n1 := 2304) j]
  exact point_codes m c t0_0 _ _

theorem point_scales (t : Fin cfg0.N) (r : Fin 24576) (k : Fin 72) : out0_4 (iblk m c 0 t) (iblk m c 1 t) (ix2 r k) = dyScale (rows m c r) k := by
  refine (out_scales (iblk m c 0 t) (iblk m c 1 t) r k).trans ?_
  rw [funext (block0_0 m c t r)]

theorem array_scales : (dats m 0 c).arrAt 4 cfg0.N = fun i => dyScale (rows m c (i 0)) (i 1) := by
  refine (dats m 0 c).arrAt_eq_of_after_last 4 t0_0 (by decide +kernel) _ fun j => ?_
  blk_simp
  rw [after0_4, eq_ix2 (n0 := 24576) (n1 := 72) j]
  exact point_scales m c t0_0 _ _

theorem point_wCodes (t : Fin cfg0.N) (r : Fin 1408) (k : Fin 2304) : out0_5 (iblk m c 0 t) (iblk m c 1 t) (ix2 r k) = wCode (weights m c) r k := by
  refine (out_wCodes (iblk m c 0 t) (iblk m c 1 t) r k).trans ?_
  rw [block0_1']

theorem array_wCodes : (dats m 0 c).arrAt 5 cfg0.N = fun i => wCode (weights m c) (i 0) (i 1) := by
  refine (dats m 0 c).arrAt_eq_of_after_last 5 t0_0 (by decide +kernel) _ fun j => ?_
  blk_simp
  rw [after0_5, eq_ix2 (n0 := 1408) (n1 := 2304) j]
  exact point_wCodes m c t0_0 _ _

theorem point_wScales (t : Fin cfg0.N) (r : Fin 44) (k : Fin 72) : out0_6 (iblk m c 0 t) (iblk m c 1 t) (ix2 r k) = wScale (weights m c) r k := by
  refine (out_wScales (iblk m c 0 t) (iblk m c 1 t) r k).trans ?_
  rw [block0_1']

theorem array_wScales : (dats m 0 c).arrAt 6 cfg0.N = fun i => wScale (weights m c) (i 0) (i 1) := by
  refine (dats m 0 c).arrAt_eq_of_after_last 6 t0_0 (by decide +kernel) _ fun j => ?_
  blk_simp
  rw [after0_6, eq_ix2 (n0 := 44) (n1 := 72) j]
  exact point_wScales m c t0_0 _ _

/-- Every execution ends with the five results at these functions of the arguments, and the arguments as they were. -/
theorem run : θ_run defs (onTc (τ := τ) (main (F := Ideal))) ⟨m, fun _ => 0, ρ⟩ fun r => ∀ c : Dev nD,
      r.2.mem ((c.tc : Thread nD τ).loc main_v1_0) = (fun i => dxAt (rows m c (i 0)) (weights m c) (i 1))
      ∧ r.2.mem ((c.tc : Thread nD τ).loc main_v1_1) = (fun i => dyCode (rows m c (i 0)) (i 1))
      ∧ r.2.mem ((c.tc : Thread nD τ).loc main_v1_2) = (fun i => dyScale (rows m c (i 0)) (i 1))
      ∧ r.2.mem ((c.tc : Thread nD τ).loc main_v1_3) = (fun i => wCode (weights m c) (i 0) (i 1))
      ∧ r.2.mem ((c.tc : Thread nD τ).loc main_v1_4) = (fun i => wScale (weights m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨(h.1.out_eq c 2).trans (array_dx m c), (h.1.out_eq c 3).trans (array_codes m c), (h.1.out_eq c 4).trans (array_scales m c),
     (h.1.out_eq c 5).trans (array_wCodes m c), (h.1.out_eq c 6).trans (array_wScales m c), h.2.1 c⟩)
    (θ_run_and (run_main m ρ) (frame m ρ))

end Cert.Proof.Ref
-- ==== Proof.Algebraic.lean ====
/-
  The kernel and the reference end with equal results: each run ends at functions of the arguments, and they are the same functions.
-/
module

public import proofs.«01_k».proof.Defs
public import proofs.«01_k».proof.Proof.KArrays
public import proofs.«01_k».proof.Proof.RArrays

@[expose] public section

noncomputable section

namespace Cert.Proof

open Idealize.ShloMosaic Idealize.ShloMosaic.TcCoe Idealize.SL.Sem

theorem algebraic : @Cert.algebraic_KernelIdeal_ReferenceIdeal Cert.KernelIdeal.Gen.facts Cert.ReferenceIdeal.Gen.facts := by
  intro m g m' g' _ hag
  refine ⟨fun c i => dxAt (Ker.rows m c (i 0)) (Ker.weights m c) (i 1), fun c i => dyCode (Ker.rows m c (i 0)) (i 1),
    fun c i => dyScale (Ker.rows m c (i 0)) (i 1), fun c i => wCode (Ker.weights m c) (i 0) (i 1), fun c i => wScale (Ker.weights m c) (i 0) (i 1),
    Ker.run m g, ?_⟩
  have hr : ∀ c : Dev Cert.KernelIdeal.nD, Ref.rows m' c = Ker.rows m c := fun c => by
    unfold Ref.rows Ker.rows
    rw [show m' _ = _ from (hag c).1]
  have hw : ∀ c : Dev Cert.KernelIdeal.nD, Ref.weights m' c = Ker.weights m c := fun c => by
    unfold Ref.weights Ker.weights
    rw [show m' _ = _ from (hag c).2]
  refine (θ_run Cert.ReferenceIdeal.defs _ _).mono (fun r h c => ?_) (Ref.run m' g')
  obtain ⟨h0, h1, h2, h3, h4, ha⟩ := h c
  exact ⟨h0.trans (congrArg₂ (fun (Y : Fin 24576 → Fin 2304 → EReal) (W : Fin 1408 → Fin 2304 → EReal) (i : Cert.KernelIdeal.S24576x1408.Idx) => dxAt (Y (i 0)) W (i 1)) (hr c) (hw c)),
    h1.trans (congrArg (fun (Y : Fin 24576 → Fin 2304 → EReal) (i : Cert.KernelIdeal.S24576x2304.Idx) => dyCode (Y (i 0)) (i 1)) (hr c)),
    h2.trans (congrArg (fun (Y : Fin 24576 → Fin 2304 → EReal) (i : Cert.KernelIdeal.S24576x72.Idx) => dyScale (Y (i 0)) (i 1)) (hr c)),
    h3.trans (congrArg (fun (W : Fin 1408 → Fin 2304 → EReal) (i : Cert.KernelIdeal.S1408x2304.Idx) => wCode W (i 0) (i 1)) (hw c)),
    h4.trans (congrArg (fun (W : Fin 1408 → Fin 2304 → EReal) (i : Cert.KernelIdeal.S44x72.Idx) => wScale W (i 0) (i 1)) (hw c)), ha⟩

end Cert.Proof
-- ==== Proof.lean ====
module

public import proofs.«01_k».proof.Defs
public import proofs.«01_k».proof.Proof.Gen.Kernel
public import proofs.«01_k».proof.Proof.Kernel.Frame
public import proofs.«01_k».proof.Proof.Gen.KernelIdeal
public import proofs.«01_k».proof.Proof.KernelIdeal.Frame
public import proofs.«01_k».proof.Proof.Gen.ReferenceIdeal
public import proofs.«01_k».proof.Proof.Gen.ReferenceIdeal.Frame
public import proofs.«01_k».proof.Proof.Algebraic
public import Idealize.ShloMosaic.Lib.Bf16PairInverse
public import Idealize.ShloMosaic.Adequacy
public import Idealize.ShloMosaic.Init

@[expose] public section

noncomputable section

namespace Cert.Proof

open Idealize.ShloMosaic Idealize.SL.Sem

open Cert.KernelIdeal IdealRules.bf16_pair in
/-- Every rewrite of the ideal program is an instance of its rule. -/
theorem preserves : Cert.preserves_Kernel_KernelIdeal :=
  ⟨bufferStatement S2304x2x128 S2304x1x128, statement S64x512 S32x512, statement S32x2x128 S32x1x128,
    statement S72x2x128 S72x1x128, statement S144x128 S72x128, statement S144x512 S72x512⟩

theorem claim : Cert.Claim := ⟨Cert.Kernel.Gen.facts, Cert.KernelIdeal.Gen.facts, Cert.ReferenceIdeal.Gen.facts,
  fun m ρ _ => Cert.Kernel.Own.frame m ρ, fun m ρ _ => Cert.KernelIdeal.Own.frame m ρ,
  fun m ρ _ => Cert.ReferenceIdeal.Gen.frame m ρ, preserves, algebraic⟩

end Cert.Proof

end
